-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S704x2x512 Cert.KernelIdeal.S704x1x512
  ∧ IdealRules.bf16_pair.PackStatement Cert.KernelIdeal.S16x512
  ∧ IdealRules.bf16_pair.Statement Cert.KernelIdeal.S16x2x512 Cert.KernelIdeal.S16x1x512
  ∧ IdealRules.bf16_pair.Statement Cert.KernelIdeal.S1x2x512 Cert.KernelIdeal.S1x1x512
  ∧ IdealRules.bf16_pair.Statement Cert.KernelIdeal.S16x512 Cert.KernelIdeal.S8x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x11264 : Shape := ⟨3, ![192, 1, 11264]⟩
abbrev S44x2x64x8192 : Shape := ⟨4, ![44, 2, 64, 8192]⟩
abbrev S44x2x32x8192 : Shape := ⟨4, ![44, 2, 32, 8192]⟩
abbrev S44x16x8192 : Shape := ⟨3, ![44, 16, 8192]⟩
abbrev S44x8192 : Shape := ⟨2, ![44, 8192]⟩
abbrev S192x11264 : Shape := ⟨2, ![192, 11264]⟩
abbrev S192x8192 : Shape := ⟨2, ![192, 8192]⟩
abbrev S44x2x64x512 : Shape := ⟨4, ![44, 2, 64, 512]⟩
abbrev S44x2x32x512 : Shape := ⟨4, ![44, 2, 32, 512]⟩
abbrev S44x16x512 : Shape := ⟨3, ![44, 16, 512]⟩
abbrev S44x512 : Shape := ⟨2, ![44, 512]⟩
abbrev S192x512 : Shape := ⟨2, ![192, 512]⟩
abbrev S704x512 : Shape := ⟨2, ![704, 512]⟩
abbrev S1x16x512 : Shape := ⟨3, ![1, 16, 512]⟩
abbrev S16x512 : Shape := ⟨2, ![16, 512]⟩
abbrev S1x512 : Shape := ⟨2, ![1, 512]⟩
abbrev S1x1x32x512 : Shape := ⟨4, ![1, 1, 32, 512]⟩
abbrev S32x512 : Shape := ⟨2, ![32, 512]⟩
abbrev S8x512 : Shape := ⟨2, ![8, 512]⟩
abbrev S256x512 : Shape := ⟨2, ![256, 512]⟩
abbrev S192x256 : Shape := ⟨2, ![192, 256]⟩

abbrev nBuf : Space → Nat
  | .hbm => 7
  | .vmem => 13
  | .smem => 0
  | _ => 0

abbrev bufTy : (tb : Table) → Fin (tcTables nBuf tb) → BufTy
  | .hbm, ⟨0, _⟩ => ⟨S192x1x11264, .bf16⟩
  | .hbm, ⟨1, _⟩ => ⟨S44x2x64x8192, .i8⟩
  | .hbm, ⟨2, _⟩ => ⟨S44x2x32x8192, .i8⟩
  | .hbm, ⟨3, _⟩ => ⟨S44x16x8192, .i8⟩
  | .hbm, ⟨4, _⟩ => ⟨S44x8192, .i16⟩
  | .hbm, ⟨5, _⟩ => ⟨S192x11264, .bf16⟩
  | .hbm, ⟨6, _⟩ => ⟨S192x8192, .bf16⟩
  | .local _ .vmem, ⟨0, _⟩ => ⟨S192x11264, .bf16⟩
  | .local _ .vmem, ⟨1, _⟩ => ⟨S44x2x64x512, .i8⟩
  | .local _ .vmem, ⟨2, _⟩ => ⟨S44x2x64x512, .i8⟩
  | .local _ .vmem, ⟨3, _⟩ => ⟨S44x2x32x512, .i8⟩
  | .local _ .vmem, ⟨4, _⟩ => ⟨S44x2x32x512, .i8⟩
  | .local _ .vmem, ⟨5, _⟩ => ⟨S44x16x512, .i8⟩
  | .local _ .vmem, ⟨6, _⟩ => ⟨S44x16x512, .i8⟩
  | .local _ .vmem, ⟨7, _⟩ => ⟨S44x512, .i16⟩
  | .local _ .vmem, ⟨8, _⟩ => ⟨S44x512, .i16⟩
  | .local _ .vmem, ⟨9, _⟩ => ⟨S192x512, .bf16⟩
  | .local _ .vmem, ⟨10, _⟩ => ⟨S192x512, .bf16⟩
  | .local _ .vmem, ⟨11, _⟩ => ⟨S704x512, .i32⟩
  | .local _ .vmem, ⟨12, _⟩ => ⟨S44x512, .f32⟩
  | _, _ => ⟨S192x1x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [BitOps F]

abbrev grid0 : Pipeline.Grid := ⟨1, ![16], ![false]⟩

@[reducible] def k0_t1_loop : Scf.Loop 32 :=
  let c0_i32_5 : BitVec 32 := 0#32
  let c44_i32 : BitVec 32 := 44#32
  let v28 : BitVec 32 := Scalar.addi c0_i32_5 c44_i32
  let c1_i32 : BitVec 32 := 1#32
  ⟨c0_i32_5, v28, c1_i32⟩
def k0_off1 (k0_t1 : Fin k0_t1_loop.trips) : Fin 3 → Nat :=
  let c0_i32_5 : BitVec 32 := 0#32
  let c1_i32 : BitVec 32 := 1#32
  let arg9 : BitVec 32 := Scf.iv c0_i32_5 c1_i32 k0_t1
  let v32 : Index := Scalar.indexCast arg9
  let c0_9 : Index := 0#32
  let c0_10 : Index := 0#32
  ![v32.toNat, 0, 0]
def k0_off2 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let v36 : Index := Scalar.indexCast arg9
  let c0_11 : Index := 0#32
  ![v36.toNat, 0]
def k0_off3 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let c16_i32 : BitVec 32 := 16#32
  let v41 : BitVec 32 := Scalar.muli arg9 c16_i32
  let v42 : Index := Scalar.indexCast v41
  let c0_12 : Index := 0#32
  ![v42.toNat, 0]
def k0_off4 (k0_t1 : Fin k0_t1_loop.trips) : Fin 4 → Nat :=
  let c0_i32_5 : BitVec 32 := 0#32
  let c1_i32 : BitVec 32 := 1#32
  let arg9 : BitVec 32 := Scf.iv c0_i32_5 c1_i32 k0_t1
  let v46 : Index := Scalar.indexCast arg9
  let c0_13 : Index := 0#32
  let c0_14 : Index := 0#32
  let c0_15 : Index := 0#32
  ![v46.toNat, 0, 0, 0]
def k0_off5 (k0_t1 : Fin k0_t1_loop.trips) : Fin 4 → Nat :=
  let c0_i32_5 : BitVec 32 := 0#32
  let c1_i32 : BitVec 32 := 1#32
  let arg9 : BitVec 32 := Scf.iv c0_i32_5 c1_i32 k0_t1
  let v49 : Index := Scalar.indexCast arg9
  let c0_16 : Index := 0#32
  let c32 : Index := 32#32
  let c0_17 : Index := 0#32
  ![v49.toNat, 0, 32, 0]
def k0_off6 (k0_t1 : Fin k0_t1_loop.trips) : Fin 4 → Nat :=
  let c0_i32_5 : BitVec 32 := 0#32
  let c1_i32 : BitVec 32 := 1#32
  let arg9 : BitVec 32 := Scf.iv c0_i32_5 c1_i32 k0_t1
  let v52 : Index := Scalar.indexCast arg9
  let c0_18 : Index := 0#32
  let c0_19 : Index := 0#32
  let c0_20 : Index := 0#32
  ![v52.toNat, 0, 0, 0]
def k0_off7 (k0_t1 : Fin k0_t1_loop.trips) (c0_i32_39 : BitVec 32) (c0_i32_40 : BitVec 32) (c0_i32_41 : BitVec 32) : Fin 2 → Nat :=
  let c0_i32_5 : BitVec 32 := 0#32
  let c1_i32 : BitVec 32 := 1#32
  let arg9 : BitVec 32 := Scf.iv c0_i32_5 c1_i32 k0_t1
  let c16_i32_38 : BitVec 32 := 16#32
  let v113 : BitVec 32 := Scalar.muli arg9 c16_i32_38
  let v114 : BitVec 32 := Scalar.addi v113 c0_i32_39
  let v115 : BitVec 32 := Scalar.addi v114 c0_i32_40
  let v116 : BitVec 32 := Scalar.addi v115 c0_i32_41
  let v117 : Index := Scalar.indexCast v116
  let c0_42 : Index := 0#32
  ![v117.toNat, 0]
def k0_off8 (k0_t1 : Fin k0_t1_loop.trips) : Fin 4 → Nat :=
  let c0_i32_5 : BitVec 32 := 0#32
  let c1_i32 : BitVec 32 := 1#32
  let arg9 : BitVec 32 := Scf.iv c0_i32_5 c1_i32 k0_t1
  let v196 : Index := Scalar.indexCast arg9
  let c1 : Index := 1#32
  let c0_77 : Index := 0#32
  let c0_78 : Index := 0#32
  ![v196.toNat, 1, 0, 0]
def k0_off9 (k0_t1 : Fin k0_t1_loop.trips) : Fin 4 → Nat :=
  let c0_i32_5 : BitVec 32 := 0#32
  let c1_i32 : BitVec 32 := 1#32
  let arg9 : BitVec 32 := Scf.iv c0_i32_5 c1_i32 k0_t1
  let v199 : Index := Scalar.indexCast arg9
  let c1_79 : Index := 1#32
  let c32_80 : Index := 32#32
  let c0_81 : Index := 0#32
  ![v199.toNat, 1, 32, 0]
def k0_off10 (k0_t1 : Fin k0_t1_loop.trips) : Fin 4 → Nat :=
  let c0_i32_5 : BitVec 32 := 0#32
  let c1_i32 : BitVec 32 := 1#32
  let arg9 : BitVec 32 := Scf.iv c0_i32_5 c1_i32 k0_t1
  let v202 : Index := Scalar.indexCast arg9
  let c1_82 : Index := 1#32
  let c0_83 : Index := 0#32
  let c0_84 : Index := 0#32
  ![v202.toNat, 1, 0, 0]
def k0_mult1 (k0_t1 : Fin k0_t1_loop.trips) : BitVec 32 :=
  let c0_i32_5 : BitVec 32 := 0#32
  let c1_i32 : BitVec 32 := 1#32
  let arg9 : BitVec 32 := Scf.iv c0_i32_5 c1_i32 k0_t1
  let c256_i32 : BitVec 32 := 256#32
  let v347 : BitVec 32 := Scalar.muli arg9 c256_i32
  v347
def k0_off11 (k0_t1 : Fin k0_t1_loop.trips) : Fin 2 → Nat :=
  let c0_147 : Index := 0#32
  let c0_i32_5 : BitVec 32 := 0#32
  let c1_i32 : BitVec 32 := 1#32
  let arg9 : BitVec 32 := Scf.iv c0_i32_5 c1_i32 k0_t1
  let c256_i32 : BitVec 32 := 256#32
  let v347 : BitVec 32 := Scalar.muli arg9 c256_i32
  let v348 : BitVec 32 := v347
  let v349 : Index := Scalar.indexCast v348
  ![0, v349.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x11264 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S44x2x64x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S44x2x32x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S44x16x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S44x512 .i16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
abbrev S192x1x11264 : Shape := ⟨3, ![192, 1, 11264]⟩
abbrev S44x2x64x8192 : Shape := ⟨4, ![44, 2, 64, 8192]⟩
abbrev S44x2x32x8192 : Shape := ⟨4, ![44, 2, 32, 8192]⟩
abbrev S44x16x8192 : Shape := ⟨3, ![44, 16, 8192]⟩
abbrev S44x8192 : Shape := ⟨2, ![44, 8192]⟩
abbrev S192x11264 : Shape := ⟨2, ![192, 11264]⟩
abbrev S192x8192 : Shape := ⟨2, ![192, 8192]⟩
abbrev S44x2x64x512 : Shape := ⟨4, ![44, 2, 64, 512]⟩
abbrev S44x2x32x512 : Shape := ⟨4, ![44, 2, 32, 512]⟩
abbrev S44x16x512 : Shape := ⟨3, ![44, 16, 512]⟩
abbrev S44x512 : Shape := ⟨2, ![44, 512]⟩
abbrev S192x512 : Shape := ⟨2, ![192, 512]⟩
abbrev S704x512 : Shape := ⟨2, ![704, 512]⟩
abbrev S704x2x512 : Shape := ⟨3, ![704, 2, 512]⟩
abbrev S704x1x512 : Shape := ⟨3, ![704, 1, 512]⟩
abbrev S1x16x512 : Shape := ⟨3, ![1, 16, 512]⟩
abbrev S16x512 : Shape := ⟨2, ![16, 512]⟩
abbrev S1x512 : Shape := ⟨2, ![1, 512]⟩
abbrev S16x2x512 : Shape := ⟨3, ![16, 2, 512]⟩
abbrev S16x1x512 : Shape := ⟨3, ![16, 1, 512]⟩
abbrev S1x1x32x512 : Shape := ⟨4, ![1, 1, 32, 512]⟩
abbrev S32x512 : Shape := ⟨2, ![32, 512]⟩
abbrev S8x512 : Shape := ⟨2, ![8, 512]⟩
abbrev S1x2x512 : Shape := ⟨3, ![1, 2, 512]⟩
abbrev S1x1x512 : Shape := ⟨3, ![1, 1, 512]⟩
abbrev S256x512 : Shape := ⟨2, ![256, 512]⟩
abbrev S192x256 : Shape := ⟨2, ![192, 256]⟩

abbrev nBuf : Space → Nat
  | .hbm => 7
  | .vmem => 13
  | .smem => 0
  | _ => 0

abbrev bufTy : (tb : Table) → Fin (tcTables nBuf tb) → BufTy
  | .hbm, ⟨0, _⟩ => ⟨S192x1x11264, .bf16⟩
  | .hbm, ⟨1, _⟩ => ⟨S44x2x64x8192, .i8⟩
  | .hbm, ⟨2, _⟩ => ⟨S44x2x32x8192, .i8⟩
  | .hbm, ⟨3, _⟩ => ⟨S44x16x8192, .i8⟩
  | .hbm, ⟨4, _⟩ => ⟨S44x8192, .i16⟩
  | .hbm, ⟨5, _⟩ => ⟨S192x11264, .bf16⟩
  | .hbm, ⟨6, _⟩ => ⟨S192x8192, .bf16⟩
  | .local _ .vmem, ⟨0, _⟩ => ⟨S192x11264, .bf16⟩
  | .local _ .vmem, ⟨1, _⟩ => ⟨S44x2x64x512, .i8⟩
  | .local _ .vmem, ⟨2, _⟩ => ⟨S44x2x64x512, .i8⟩
  | .local _ .vmem, ⟨3, _⟩ => ⟨S44x2x32x512, .i8⟩
  | .local _ .vmem, ⟨4, _⟩ => ⟨S44x2x32x512, .i8⟩
  | .local _ .vmem, ⟨5, _⟩ => ⟨S44x16x512, .i8⟩
  | .local _ .vmem, ⟨6, _⟩ => ⟨S44x16x512, .i8⟩
  | .local _ .vmem, ⟨7, _⟩ => ⟨S44x512, .i16⟩
  | .local _ .vmem, ⟨8, _⟩ => ⟨S44x512, .i16⟩
  | .local _ .vmem, ⟨9, _⟩ => ⟨S192x512, .bf16⟩
  | .local _ .vmem, ⟨10, _⟩ => ⟨S192x512, .bf16⟩
  | .local _ .vmem, ⟨11, _⟩ => ⟨S704x2x512, .bf16⟩
  | .local _ .vmem, ⟨12, _⟩ => ⟨S44x512, .f32⟩
  | _, _ => ⟨S192x1x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_5 : BitVec 32 := 0#32
  let c44_i32 : BitVec 32 := 44#32
  let v28 : BitVec 32 := Scalar.addi c0_i32_5 c44_i32
  let c1_i32 : BitVec 32 := 1#32
  ⟨c0_i32_5, v28, c1_i32⟩
def k0_off1 (k0_t1 : Fin k0_t1_loop.trips) : Fin 3 → Nat :=
  let c0_i32_5 : BitVec 32 := 0#32
  let c1_i32 : BitVec 32 := 1#32
  let arg9 : BitVec 32 := Scf.iv c0_i32_5 c1_i32 k0_t1
  let v32 : Index := Scalar.indexCast arg9
  let c0_9 : Index := 0#32
  let c0_10 : Index := 0#32
  ![v32.toNat, 0, 0]
def k0_off2 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let v36 : Index := Scalar.indexCast arg9
  let c0_11 : Index := 0#32
  ![v36.toNat, 0]
def k0_off3 (k0_t1 : Fin k0_t1_loop.trips) : Fin 3 → Nat :=
  let c0_i32_5 : BitVec 32 := 0#32
  let c1_i32 : BitVec 32 := 1#32
  let arg9 : BitVec 32 := Scf.iv c0_i32_5 c1_i32 k0_t1
  let c16_i32 : BitVec 32 := 16#32
  let v41 : BitVec 32 := Scalar.muli arg9 c16_i32
  let v42 : Index := Scalar.indexCast v41
  let c0_12 : Index := 0#32
  ![v42.toNat, 0, 0]
def k0_off4 (k0_t1 : Fin k0_t1_loop.trips) : Fin 4 → Nat :=
  let c0_i32_5 : BitVec 32 := 0#32
  let c1_i32 : BitVec 32 := 1#32
  let arg9 : BitVec 32 := Scf.iv c0_i32_5 c1_i32 k0_t1
  let v46 : Index := Scalar.indexCast arg9
  let c0_13 : Index := 0#32
  let c0_14 : Index := 0#32
  let c0_15 : Index := 0#32
  ![v46.toNat, 0, 0, 0]
def k0_off5 (k0_t1 : Fin k0_t1_loop.trips) : Fin 4 → Nat :=
  let c0_i32_5 : BitVec 32 := 0#32
  let c1_i32 : BitVec 32 := 1#32
  let arg9 : BitVec 32 := Scf.iv c0_i32_5 c1_i32 k0_t1
  let v49 : Index := Scalar.indexCast arg9
  let c0_16 : Index := 0#32
  let c32 : Index := 32#32
  let c0_17 : Index := 0#32
  ![v49.toNat, 0, 32, 0]
def k0_off6 (k0_t1 : Fin k0_t1_loop.trips) : Fin 4 → Nat :=
  let c0_i32_5 : BitVec 32 := 0#32
  let c1_i32 : BitVec 32 := 1#32
  let arg9 : BitVec 32 := Scf.iv c0_i32_5 c1_i32 k0_t1
  let v52 : Index := Scalar.indexCast arg9
  let c0_18 : Index := 0#32
  let c0_19 : Index := 0#32
  let c0_20 : Index := 0#32
  ![v52.toNat, 0, 0, 0]
def k0_off7 (k0_t1 : Fin k0_t1_loop.trips) (c0_i32_39 : BitVec 32) (c0_i32_40 : BitVec 32) (c0_i32_41 : BitVec 32) : Fin 3 → Nat :=
  let c0_i32_5 : BitVec 32 := 0#32
  let c1_i32 : BitVec 32 := 1#32
  let arg9 : BitVec 32 := Scf.iv c0_i32_5 c1_i32 k0_t1
  let c16_i32_38 : BitVec 32 := 16#32
  let v113 : BitVec 32 := Scalar.muli arg9 c16_i32_38
  let v114 : BitVec 32 := Scalar.addi v113 c0_i32_39
  let v115 : BitVec 32 := Scalar.addi v114 c0_i32_40
  let v116 : BitVec 32 := Scalar.addi v115 c0_i32_41
  let v117 : Index := Scalar.indexCast v116
  let c0_42 : Index := 0#32
  ![v117.toNat, 0, 0]
def k0_off8 (k0_t1 : Fin k0_t1_loop.trips) : Fin 4 → Nat :=
  let c0_i32_5 : BitVec 32 := 0#32
  let c1_i32 : BitVec 32 := 1#32
  let arg9 : BitVec 32 := Scf.iv c0_i32_5 c1_i32 k0_t1
  let v196 : Index := Scalar.indexCast arg9
  let c1 : Index := 1#32
  let c0_77 : Index := 0#32
  let c0_78 : Index := 0#32
  ![v196.toNat, 1, 0, 0]
def k0_off9 (k0_t1 : Fin k0_t1_loop.trips) : Fin 4 → Nat :=
  let c0_i32_5 : BitVec 32 := 0#32
  let c1_i32 : BitVec 32 := 1#32
  let arg9 : BitVec 32 := Scf.iv c0_i32_5 c1_i32 k0_t1
  let v199 : Index := Scalar.indexCast arg9
  let c1_79 : Index := 1#32
  let c32_80 : Index := 32#32
  let c0_81 : Index := 0#32
  ![v199.toNat, 1, 32, 0]
def k0_off10 (k0_t1 : Fin k0_t1_loop.trips) : Fin 4 → Nat :=
  let c0_i32_5 : BitVec 32 := 0#32
  let c1_i32 : BitVec 32 := 1#32
  let arg9 : BitVec 32 := Scf.iv c0_i32_5 c1_i32 k0_t1
  let v202 : Index := Scalar.indexCast arg9
  let c1_82 : Index := 1#32
  let c0_83 : Index := 0#32
  let c0_84 : Index := 0#32
  ![v202.toNat, 1, 0, 0]
def k0_mult1 (k0_t1 : Fin k0_t1_loop.trips) : BitVec 32 :=
  let c0_i32_5 : BitVec 32 := 0#32
  let c1_i32 : BitVec 32 := 1#32
  let arg9 : BitVec 32 := Scf.iv c0_i32_5 c1_i32 k0_t1
  let c256_i32 : BitVec 32 := 256#32
  let v347 : BitVec 32 := Scalar.muli arg9 c256_i32
  v347
def k0_off11 (k0_t1 : Fin k0_t1_loop.trips) : Fin 2 → Nat :=
  let c0_147 : Index := 0#32
  let c0_i32_5 : BitVec 32 := 0#32
  let c1_i32 : BitVec 32 := 1#32
  let arg9 : BitVec 32 := Scf.iv c0_i32_5 c1_i32 k0_t1
  let c256_i32 : BitVec 32 := 256#32
  let v347 : BitVec 32 := Scalar.muli arg9 c256_i32
  let v348 : BitVec 32 := v347
  let v349 : Index := Scalar.indexCast v348
  ![0, v349.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x11264 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S44x2x64x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S44x2x32x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S44x16x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S44x512 .i16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S192x1x11264 : Shape := ⟨3, ![192, 1, 11264]⟩
abbrev S44x2x64x8192 : Shape := ⟨4, ![44, 2, 64, 8192]⟩
abbrev S44x2x32x8192 : Shape := ⟨4, ![44, 2, 32, 8192]⟩
abbrev S44x16x8192 : Shape := ⟨3, ![44, 16, 8192]⟩
abbrev S44x8192 : Shape := ⟨2, ![44, 8192]⟩
abbrev S_ : Shape := ⟨0, ![]⟩
abbrev S44x1x8192 : Shape := ⟨3, ![44, 1, 8192]⟩
abbrev S44x2x4x2x8192 : Shape := ⟨5, ![44, 2, 4, 2, 8192]⟩
abbrev S192x1x44x2x4x32 : Shape := ⟨6, ![192, 1, 44, 2, 4, 32]⟩
abbrev S192x1x8192 : Shape := ⟨3, ![192, 1, 8192]⟩
abbrev S44x2x2x16x8192 : Shape := ⟨5, ![44, 2, 2, 16, 8192]⟩
abbrev S44x2x1x2x8192 : Shape := ⟨5, ![44, 2, 1, 2, 8192]⟩
abbrev S44x2x2x8192 : Shape := ⟨4, ![44, 2, 2, 8192]⟩
abbrev S44x2x2x1x8192 : Shape := ⟨5, ![44, 2, 2, 1, 8192]⟩
abbrev S192x1x44x2x1x32 : Shape := ⟨6, ![192, 1, 44, 2, 1, 32]⟩
abbrev S192x1x44x2x32 : Shape := ⟨5, ![192, 1, 44, 2, 32]⟩
abbrev S192x8192 : Shape := ⟨2, ![192, 8192]⟩

abbrev nBuf : Space → Nat
  | .hbm => 181
  | .vmem => 0
  | .smem => 0
  | _ => 0

abbrev hbmTy0_0 (i : Nat) : BufTy := match i % 128 with
  | 0 => ⟨S192x1x11264, .bf16⟩
  | 1 => ⟨S44x2x64x8192, .i8⟩
  | 2 => ⟨S44x2x32x8192, .i8⟩
  | 3 => ⟨S44x16x8192, .i8⟩
  | 4 => ⟨S44x8192, .i16⟩
  | 5 => ⟨S44x8192, .i32⟩
  | 6 => ⟨S_, .i32⟩
  | 7 => ⟨S44x8192, .i32⟩
  | 8 => ⟨S44x8192, .i32⟩
  | 9 => ⟨S_, .i32⟩
  | 10 => ⟨S44x8192, .i32⟩
  | 11 => ⟨S44x8192, .i32⟩
  | 12 => ⟨S_, .i32⟩
  | 13 => ⟨S44x8192, .i32⟩
  | 14 => ⟨S44x8192, .i32⟩
  | 15 => ⟨S_, .i32⟩
  | 16 => ⟨S44x8192, .i32⟩
  | 17 => ⟨S44x8192, .i32⟩
  | 18 => ⟨S44x8192, .f32⟩
  | 19 => ⟨S_, .f32⟩
  | 20 => ⟨S44x8192, .f32⟩
  | 21 => ⟨S44x8192, .f32⟩
  | 22 => ⟨S_, .i32⟩
  | 23 => ⟨S44x8192, .i32⟩
  | 24 => ⟨S44x8192, .i32⟩
  | 25 => ⟨S44x8192, .f32⟩
  | 26 => ⟨S_, .i32⟩
  | 27 => ⟨S44x8192, .i32⟩
  | 28 => ⟨S44x8192, .i32⟩
  | 29 => ⟨S44x8192, .f32⟩
  | 30 => ⟨S_, .f32⟩
  | 31 => ⟨S44x8192, .f32⟩
  | 32 => ⟨S44x8192, .f32⟩
  | 33 => ⟨S44x8192, .f32⟩
  | 34 => ⟨S_, .i32⟩
  | 35 => ⟨S44x8192, .i32⟩
  | 36 => ⟨S44x8192, .i1⟩
  | 37 => ⟨S_, .f32⟩
  | 38 => ⟨S_, .f32⟩
  | 39 => ⟨S44x8192, .f32⟩
  | 40 => ⟨S44x8192, .f32⟩
  | 41 => ⟨S44x8192, .f32⟩
  | 42 => ⟨S_, .i32⟩
  | 43 => ⟨S44x8192, .i32⟩
  | 44 => ⟨S44x8192, .i1⟩
  | 45 => ⟨S_, .i32⟩
  | 46 => ⟨S44x8192, .i32⟩
  | 47 => ⟨S44x8192, .i1⟩
  | 48 => ⟨S44x8192, .f32⟩
  | 49 => ⟨S44x8192, .f32⟩
  | 50 => ⟨S44x8192, .f32⟩
  | 51 => ⟨S_, .i32⟩
  | 52 => ⟨S44x8192, .i32⟩
  | 53 => ⟨S44x8192, .i1⟩
  | 54 => ⟨S44x8192, .f32⟩
  | 55 => ⟨S44x8192, .f32⟩
  | 56 => ⟨S44x1x8192, .f32⟩
  | 57 => ⟨S44x16x8192, .i32⟩
  | 58 => ⟨S44x16x8192, .f32⟩
  | 59 => ⟨S44x16x8192, .f32⟩
  | 60 => ⟨S44x16x8192, .f32⟩
  | 61 => ⟨S44x16x8192, .bf16⟩
  | 62 => ⟨S44x2x4x2x8192, .bf16⟩
  | 63 => ⟨S192x1x44x2x4x32, .bf16⟩
  | 64 => ⟨S_, .f32⟩
  | 65 => ⟨S192x1x8192, .f32⟩
  | 66 => ⟨S44x2x64x8192, .i32⟩
  | 67 => ⟨S44x2x32x8192, .i32⟩
  | 68 => ⟨S44x2x32x8192, .i32⟩
  | 69 => ⟨S44x2x32x8192, .i32⟩
  | 70 => ⟨S_, .i32⟩
  | 71 => ⟨S44x2x32x8192, .i32⟩
  | 72 => ⟨S44x2x32x8192, .i32⟩
  | 73 => ⟨S_, .i32⟩
  | 74 => ⟨S44x2x32x8192, .i32⟩
  | 75 => ⟨S44x2x32x8192, .i32⟩
  | 76 => ⟨S_, .i32⟩
  | 77 => ⟨S44x2x32x8192, .i32⟩
  | 78 => ⟨S44x2x32x8192, .i32⟩
  | 79 => ⟨S44x2x32x8192, .i32⟩
  | 80 => ⟨S_, .i32⟩
  | 81 => ⟨S44x2x32x8192, .i32⟩
  | 82 => ⟨S44x2x32x8192, .i32⟩
  | 83 => ⟨S_, .i32⟩
  | 84 => ⟨S44x2x32x8192, .i32⟩
  | 85 => ⟨S44x2x32x8192, .i32⟩
  | 86 => ⟨S_, .i32⟩
  | 87 => ⟨S44x2x32x8192, .i32⟩
  | 88 => ⟨S44x2x32x8192, .i32⟩
  | 89 => ⟨S_, .i32⟩
  | 90 => ⟨S44x2x32x8192, .i32⟩
  | 91 => ⟨S44x2x32x8192, .i32⟩
  | 92 => ⟨S44x2x32x8192, .i32⟩
  | 93 => ⟨S_, .i32⟩
  | 94 => ⟨S44x2x32x8192, .i32⟩
  | 95 => ⟨S44x2x32x8192, .i32⟩
  | 96 => ⟨S_, .i32⟩
  | 97 => ⟨S44x2x32x8192, .i32⟩
  | 98 => ⟨S44x2x32x8192, .i32⟩
  | 99 => ⟨S_, .i32⟩
  | 100 => ⟨S44x2x32x8192, .i32⟩
  | 101 => ⟨S44x2x32x8192, .i32⟩
  | 102 => ⟨S_, .i32⟩
  | 103 => ⟨S44x2x32x8192, .i32⟩
  | 104 => ⟨S44x2x32x8192, .i32⟩
  | 105 => ⟨S44x2x32x8192, .i32⟩
  | 106 => ⟨S_, .i32⟩
  | 107 => ⟨S44x2x32x8192, .i32⟩
  | 108 => ⟨S44x2x32x8192, .i32⟩
  | 109 => ⟨S_, .i32⟩
  | 110 => ⟨S44x2x32x8192, .i32⟩
  | 111 => ⟨S44x2x32x8192, .i32⟩
  | 112 => ⟨S_, .i32⟩
  | 113 => ⟨S44x2x32x8192, .i32⟩
  | 114 => ⟨S44x2x32x8192, .i32⟩
  | 115 => ⟨S_, .i32⟩
  | 116 => ⟨S44x2x32x8192, .i32⟩
  | 117 => ⟨S44x2x32x8192, .i32⟩
  | 118 => ⟨S44x2x32x8192, .i32⟩
  | 119 => ⟨S44x2x32x8192, .bf16⟩
  | 120 => ⟨S_, .bf16⟩
  | 121 => ⟨S44x2x32x8192, .bf16⟩
  | 122 => ⟨S44x2x32x8192, .bf16⟩
  | 123 => ⟨S44x2x2x16x8192, .bf16⟩
  | 124 => ⟨S44x2x1x2x8192, .bf16⟩
  | 125 => ⟨S44x2x2x8192, .bf16⟩
  | 126 => ⟨S44x2x2x1x8192, .bf16⟩
  | 127 => ⟨S44x2x2x16x8192, .bf16⟩
  | _ => ⟨S192x1x11264, .bf16⟩

abbrev hbmTy0_1 (i : Nat) : BufTy := match i % 128 with
  | 0 => ⟨S44x2x2x16x8192, .bf16⟩
  | 1 => ⟨S44x2x32x8192, .bf16⟩
  | 2 => ⟨S192x1x44x2x1x32, .bf16⟩
  | 3 => ⟨S192x1x44x2x32, .bf16⟩
  | 4 => ⟨S192x1x8192, .f32⟩
  | 5 => ⟨S192x1x8192, .f32⟩
  | 6 => ⟨S44x2x32x8192, .bf16⟩
  | 7 => ⟨S_, .bf16⟩
  | 8 => ⟨S44x2x32x8192, .bf16⟩
  | 9 => ⟨S44x2x32x8192, .bf16⟩
  | 10 => ⟨S44x2x2x16x8192, .bf16⟩
  | 11 => ⟨S44x2x1x2x8192, .bf16⟩
  | 12 => ⟨S44x2x2x8192, .bf16⟩
  | 13 => ⟨S44x2x2x1x8192, .bf16⟩
  | 14 => ⟨S44x2x2x16x8192, .bf16⟩
  | 15 => ⟨S44x2x2x16x8192, .bf16⟩
  | 16 => ⟨S44x2x32x8192, .bf16⟩
  | 17 => ⟨S192x1x44x2x1x32, .bf16⟩
  | 18 => ⟨S192x1x44x2x32, .bf16⟩
  | 19 => ⟨S192x1x8192, .f32⟩
  | 20 => ⟨S192x1x8192, .f32⟩
  | 21 => ⟨S44x2x32x8192, .bf16⟩
  | 22 => ⟨S_, .bf16⟩
  | 23 => ⟨S44x2x32x8192, .bf16⟩
  | 24 => ⟨S44x2x32x8192, .bf16⟩
  | 25 => ⟨S44x2x2x16x8192, .bf16⟩
  | 26 => ⟨S44x2x1x2x8192, .bf16⟩
  | 27 => ⟨S44x2x2x8192, .bf16⟩
  | 28 => ⟨S44x2x2x1x8192, .bf16⟩
  | 29 => ⟨S44x2x2x16x8192, .bf16⟩
  | 30 => ⟨S44x2x2x16x8192, .bf16⟩
  | 31 => ⟨S44x2x32x8192, .bf16⟩
  | 32 => ⟨S192x1x44x2x1x32, .bf16⟩
  | 33 => ⟨S192x1x44x2x32, .bf16⟩
  | 34 => ⟨S192x1x8192, .f32⟩
  | 35 => ⟨S192x1x8192, .f32⟩
  | 36 => ⟨S44x2x32x8192, .bf16⟩
  | 37 => ⟨S_, .bf16⟩
  | 38 => ⟨S44x2x32x8192, .bf16⟩
  | 39 => ⟨S44x2x32x8192, .bf16⟩
  | 40 => ⟨S44x2x2x16x8192, .bf16⟩
  | 41 => ⟨S44x2x1x2x8192, .bf16⟩
  | 42 => ⟨S44x2x2x8192, .bf16⟩
  | 43 => ⟨S44x2x2x1x8192, .bf16⟩
  | 44 => ⟨S44x2x2x16x8192, .bf16⟩
  | 45 => ⟨S44x2x2x16x8192, .bf16⟩
  | 46 => ⟨S44x2x32x8192, .bf16⟩
  | 47 => ⟨S192x1x44x2x1x32, .bf16⟩
  | 48 => ⟨S192x1x44x2x32, .bf16⟩
  | 49 => ⟨S192x1x8192, .f32⟩
  | 50 => ⟨S192x1x8192, .f32⟩
  | 51 => ⟨S192x1x8192, .bf16⟩
  | 52 => ⟨S192x8192, .bf16⟩
  | _ => ⟨S192x1x11264, .bf16⟩

abbrev hbmTy (i : Nat) : BufTy := match i / 128 with
  | 0 => hbmTy0_0 i
  | 1 => hbmTy0_1 i
  | _ => ⟨S192x1x11264, .bf16⟩

abbrev bufTy : (tb : Table) → Fin (tcTables nBuf tb) → BufTy
  | .hbm, ⟨i, _⟩ => hbmTy i
  | _, _ => ⟨S192x1x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_6 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_cst_8 : Ref sig .tc := ⟨.hbm, 38, rfl⟩
abbrev main_call0_v0 : Ref sig .tc := ⟨.hbm, 39, rfl⟩
abbrev main_call0_v1 : Ref sig .tc := ⟨.hbm, 40, rfl⟩
abbrev main_v23 : Ref sig .tc := ⟨.hbm, 41, rfl⟩
abbrev main_c_9 : Ref sig .tc := ⟨.hbm, 42, rfl⟩
abbrev main_v24 : Ref sig .tc := ⟨.hbm, 43, rfl⟩
abbrev main_v25 : Ref sig .tc := ⟨.hbm, 44, rfl⟩
abbrev main_c_10 : Ref sig .tc := ⟨.hbm, 45, rfl⟩
abbrev main_v26 : Ref sig .tc := ⟨.hbm, 46, rfl⟩
abbrev main_v27 : Ref sig .tc := ⟨.hbm, 47, rfl⟩
abbrev main_call1_v0 : Ref sig .tc := ⟨.hbm, 48, rfl⟩
abbrev main_v28 : Ref sig .tc := ⟨.hbm, 49, rfl⟩
abbrev main_v29 : Ref sig .tc := ⟨.hbm, 50, rfl⟩
abbrev main_c_11 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_12 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_13 : Ref sig .tc := ⟨.hbm, 70, rfl⟩
abbrev main_v47 : Ref sig .tc := ⟨.hbm, 71, rfl⟩
abbrev main_v48 : Ref sig .tc := ⟨.hbm, 72, rfl⟩
abbrev main_c_14 : Ref sig .tc := ⟨.hbm, 73, rfl⟩
abbrev main_v49 : Ref sig .tc := ⟨.hbm, 74, rfl⟩
abbrev main_v50 : Ref sig .tc := ⟨.hbm, 75, rfl⟩
abbrev main_c_15 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_16 : Ref sig .tc := ⟨.hbm, 80, rfl⟩
abbrev main_v54 : Ref sig .tc := ⟨.hbm, 81, rfl⟩
abbrev main_v55 : Ref sig .tc := ⟨.hbm, 82, rfl⟩
abbrev main_c_17 : Ref sig .tc := ⟨.hbm, 83, rfl⟩
abbrev main_v56 : Ref sig .tc := ⟨.hbm, 84, rfl⟩
abbrev main_v57 : Ref sig .tc := ⟨.hbm, 85, rfl⟩
abbrev main_c_18 : Ref sig .tc := ⟨.hbm, 86, rfl⟩
abbrev main_v58 : Ref sig .tc := ⟨.hbm, 87, rfl⟩
abbrev main_v59 : Ref sig .tc := ⟨.hbm, 88, rfl⟩
abbrev main_c_19 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_20 : Ref sig .tc := ⟨.hbm, 93, rfl⟩
abbrev main_v63 : Ref sig .tc := ⟨.hbm, 94, rfl⟩
abbrev main_v64 : Ref sig .tc := ⟨.hbm, 95, rfl⟩
abbrev main_c_21 : Ref sig .tc := ⟨.hbm, 96, rfl⟩
abbrev main_v65 : Ref sig .tc := ⟨.hbm, 97, rfl⟩
abbrev main_v66 : Ref sig .tc := ⟨.hbm, 98, rfl⟩
abbrev main_c_22 : Ref sig .tc := ⟨.hbm, 99, rfl⟩
abbrev main_v67 : Ref sig .tc := ⟨.hbm, 100, rfl⟩
abbrev main_v68 : Ref sig .tc := ⟨.hbm, 101, rfl⟩
abbrev main_c_23 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_24 : Ref sig .tc := ⟨.hbm, 106, rfl⟩
abbrev main_v72 : Ref sig .tc := ⟨.hbm, 107, rfl⟩
abbrev main_v73 : Ref sig .tc := ⟨.hbm, 108, rfl⟩
abbrev main_c_25 : Ref sig .tc := ⟨.hbm, 109, rfl⟩
abbrev main_v74 : Ref sig .tc := ⟨.hbm, 110, rfl⟩
abbrev main_v75 : Ref sig .tc := ⟨.hbm, 111, rfl⟩
abbrev main_c_26 : Ref sig .tc := ⟨.hbm, 112, rfl⟩
abbrev main_v76 : Ref sig .tc := ⟨.hbm, 113, rfl⟩
abbrev main_v77 : Ref sig .tc := ⟨.hbm, 114, rfl⟩
abbrev main_c_27 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_28 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_29 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_cst_30 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_31 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩

abbrev nD : Nat := 1
abbrev τ : Topo := Topo.v7x

variable {F : FTy → Type} [FloatOps F]
-- ==== Proof.KernelRun.lean ====
/-
  The run of the kernel as printed, and its frame: @main terminates, leaves its five argument arrays as launched, and ends
  with every semaphore counter at zero. The contents of the output block are not named here.
-/
module

public import proofs.«01_k».proof.Proof.Gen.Kernel.Frame
public import proofs.«01_k».proof.Proof.Gen.Kernel.Skeleton
public import proofs.«01_k».proof.Proof.Gen.Kernel.Loops
public import Idealize.ShloMosaic.Lib.Tactic
public import Idealize.ShloMosaic.Lib.Claim

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The body, on any whole buffers -/

set_option maxHeartbeats 4000000 in
/-- The body's triple. The five inputs are held at known contents and come back unchanged; the output block and the two
    scratch buffers are held at any contents and come back at some contents. The loop goes
    through by its invariant. -/
theorem body_run (c : Dev nD) (i : grid0.Coords) (arg1 : Memref sig .tc .vmem S192x11264 .bf16) (harg1 : arg1.IsWhole) (arg2 : Memref sig .tc .vmem S44x2x64x512 .i8) (harg2 : arg2.IsWhole) (arg3 : Memref sig .tc .vmem S44x2x32x512 .i8) (harg3 : arg3.IsWhole) (arg4 : Memref sig .tc .vmem S44x16x512 .i8) (harg4 : arg4.IsWhole) (arg5 : Memref sig .tc .vmem S44x512 .i16) (harg5 : arg5.IsWhole) (arg6 : Memref sig .tc .vmem S192x512 .bf16) (harg6 : arg6.IsWhole) (arg7 : Memref sig .tc .vmem S704x512 .i32) (harg7 : arg7.IsWhole) (arg8 : Memref sig .tc .vmem S44x512 .f32) (harg8 : arg8.IsWhole)
    (x0 : Vec F S192x11264 .bf16) (x1 : Vec F S44x2x64x512 .i8) (x2 : Vec F S44x2x32x512 .i8) (x3 : Vec F S44x16x512 .i8) (x4 : Vec F S44x512 .i16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0_q6k_linear i arg1 harg1 arg2 harg2 arg3 harg3 arg4 harg4 arg5 harg5 arg6 harg6 arg7 harg7 arg8 harg8) K := by
  simp only [cc0_q6k_linear_eq_skeleton]; unfold cc0_q6k_linear_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _, _; isplitr; swap; · iexact H5
    ipureintro; rfl
  isplitl [HS0]
  · iexists _, _; isplitr; swap; · iexact HS0
    ipureintro; rfl
  iexists _, _; isplitr; swap; · iexact HS1
  ipureintro; rfl

/-! ## The pipeline's proof data -/

/-- The one output window, whose contents this module does not name. -/
def forgets0 : Fin 6 → Bool := fun w => w.val == 5

/-- The proof data on core `c`: each array as the region finds it; after the body each input's block unchanged, the output's
    unnamed; the scratch buffers at some contents throughout; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

abbrev ms0_0 (t : Fin cfg0.N) : Memref sig .tc .vmem S192x11264 .bf16 := win0_0.stage (cfg0.slots t 0)
abbrev ms0_1 (t : Fin cfg0.N) : Memref sig .tc .vmem S44x2x64x512 .i8 := win0_1.stage (cfg0.slots t 1)
abbrev ms0_2 (t : Fin cfg0.N) : Memref sig .tc .vmem S44x2x32x512 .i8 := win0_2.stage (cfg0.slots t 2)
abbrev ms0_3 (t : Fin cfg0.N) : Memref sig .tc .vmem S44x16x512 .i8 := win0_3.stage (cfg0.slots t 3)
abbrev ms0_4 (t : Fin cfg0.N) : Memref sig .tc .vmem S44x512 .i16 := win0_4.stage (cfg0.slots t 4)
abbrev ms0_5 (t : Fin cfg0.N) : Memref sig .tc .vmem S192x512 .bf16 := win0_5.stage (cfg0.slots t 5)
/-- The two scratch buffers. -/
abbrev scM0_0 : Memref sig .tc .vmem S704x512 .i32 := Memref.whole cc0_scratch0
abbrev scM0_1 : Memref sig .tc .vmem S44x512 .f32 := Memref.whole cc0_scratch1

/-- The region's invariant, with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d))

set_option maxHeartbeats 800000 in
/-- The body at any point: the inputs' buffers hold their blocks, so `body_run` applies; the invariant lends the scratch
    buffers and takes them back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: every weakly fair execution terminates, at the pipeline's post and every semaphore counter zero. -/
theorem run_main_quiescent : θ_run defs (onTc (τ := τ) (main (F := F))) (s₀ m ρ)
    (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m)
    (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end as launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((A_eq m c 1).trans (V_main_arg1 m c)),
      (Pipeline.RDat.FramePost.arr_in h c 2 rfl).trans ((A_eq m c 2).trans (V_main_arg2 m c)),
      (Pipeline.RDat.FramePost.arr_in h c 3 rfl).trans ((A_eq m c 3).trans (V_main_arg3 m c)),
      (Pipeline.RDat.FramePost.arr_in h c 4 rfl).trans ((A_eq m c 4).trans (V_main_arg4 m c))⟩) (run_main m ρ)

/-- The frame: the argument arrays end as launched and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Run

end
-- ==== Proof.IdealTrip.lean ====
/-
  One trip of the idealized kernel's loop as a function of the input blocks, and the loop's result: the accumulator after all
  its trips. One trip takes one block of 256 rows of the weight: it decodes the 256 × 512 codes, multiplies each by its scale,
  and adds the product of the matching 256 columns of the activation with the result to the accumulator. The scale rows pass
  through a scratch buffer; what is read back is what the same trip stored, so the scratch's earlier contents do not matter.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.FrameBody
public import Idealize.ShloMosaic.Lib.Pipeline.Value
public import Idealize.ShloMosaic.Lib.Tactic

@[expose] public section

set_option maxRecDepth 16384

noncomputable section

namespace Cert.KernelIdeal.Trip

open Cert.KernelIdeal Cert.KernelIdeal.Gen
open Idealize.ShloMosaic Idealize.ShloMosaic.TcCoe Idealize.ShloMosaic.Tactic

variable {F : FTy → Type} [FloatOps F]

/-! ## The codes of one half of a block -/

/-- Thirty-two rows of bytes as eight rows of 32-bit words, four rows to a word. -/
def word (v : Vec F S1x1x32x512 .i8) : IVec S8x512 32 :=
  bitcast S8x512 32 (shapeCast S32x512 v shapeCasts_S1x1x32x512_S32x512) bitcasts_S32x512_w8_S8x512_w32

/-- The high parts: each two-bit field `h` of the word, brought to `((h + 6) xor 8)`. -/
def high (w : IVec S8x512 32) : IVec S8x512 32 :=
  xori (addi (andi w (broadcast S8x512 858993459#32)) (broadcast S8x512 1717986918#32)) (broadcast S8x512 2290649224#32)

/-- The word shifted right by `s`. -/
def shr (w : IVec S8x512 32) (s : BitVec 32) : IVec S8x512 32 := shrui w (broadcast S8x512 s)

/-- Low and high four-bit parts joined in each byte, and the words read as rows of bytes again. -/
def nib (a b : IVec S8x512 32) : IVec S32x512 8 :=
  bitcast S32x512 8 (ori (andi a (broadcast S8x512 252645135#32)) (shli (andi b (broadcast S8x512 252645135#32)) (broadcast S8x512 4#32)))
    bitcasts_S8x512_w32_S32x512_w8

/-- The four groups of thirty-two codes of half a block: from the low parts `lo`, `hi` and the high parts `q`. -/
def code0 (lo hi q : Vec F S1x1x32x512 .i8) : IVec S32x512 8 := nib (word lo) (high (word q))
def code1 (lo hi q : Vec F S1x1x32x512 .i8) : IVec S32x512 8 := nib (word hi) (high (shr (word q) 2#32))
def code2 (lo hi q : Vec F S1x1x32x512 .i8) : IVec S32x512 8 := nib (shr (word lo) 4#32) (shr (high (word q)) 4#32)
def code3 (lo hi q : Vec F S1x1x32x512 .i8) : IVec S32x512 8 := nib (shr (word hi) 4#32) (shr (high (shr (word q) 2#32)) 4#32)

/-! ## The weight of one block -/

/-- One scale row spread over sixteen rows: its two copies interleaved eight times. -/
def spread (r : Vec F S1x2x512 .bf16) : FVec F S16x512 .bf16 :=
  have lo : FVec F S1x512 .bf16 := shapeCast S1x512 (rowsOfParity 0 S1x1x512 r bitcasts_S1x2x512_w16_S1x1x512_w32) shapeCasts_S1x1x512_S1x512
  have hi : FVec F S1x512 .bf16 := shapeCast S1x512 (rowsOfParity 1 S1x1x512 r bitcasts_S1x2x512_w16_S1x1x512_w32) shapeCasts_S1x1x512_S1x512
  interleaveRows S16x512
    (concatenate S8x512 0 [⟨S1x512, lo⟩, ⟨S1x512, lo⟩, ⟨S1x512, lo⟩, ⟨S1x512, lo⟩, ⟨S1x512, lo⟩, ⟨S1x512, lo⟩, ⟨S1x512, lo⟩, ⟨S1x512, lo⟩] concatenates_S1x512_S1x512_S1x512_S1x512_S1x512_S1x512_S1x512_S1x512_S8x512_d0)
    (concatenate S8x512 0 [⟨S1x512, hi⟩, ⟨S1x512, hi⟩, ⟨S1x512, hi⟩, ⟨S1x512, hi⟩, ⟨S1x512, hi⟩, ⟨S1x512, hi⟩, ⟨S1x512, hi⟩, ⟨S1x512, hi⟩] concatenates_S1x512_S1x512_S1x512_S1x512_S1x512_S1x512_S1x512_S1x512_S8x512_d0)
    bitcasts_S16x512_w16_S8x512_w32

/-- The first sixteen of a group's thirty-two codes times their scale, -/
def loHalf (c : IVec S32x512 8) (r : Vec F S1x2x512 .bf16) : FVec F S16x512 .bf16 :=
  mulf (extractStridedSlice S16x512 ![0, 0] (sitofp (F := F) .bf16 c) slices_S32x512_o0_0_S16x512) (spread r)

/-- and the last sixteen times theirs. -/
def hiHalf (c : IVec S32x512 8) (r : Vec F S1x2x512 .bf16) : FVec F S16x512 .bf16 :=
  mulf (extractStridedSlice S16x512 ![16, 0] (sitofp (F := F) .bf16 c) slices_S32x512_o16_0_S16x512) (spread r)

/-- The block's 256 rows: half by half, group by group, sixteen at a time. -/
def weight (lo0 hi0 q0 lo1 hi1 q1 : Vec F S1x1x32x512 .i8) (e : Fin 2 → Fin 4 → Fin 2 → Vec F S1x2x512 .bf16) :
    FVec F S256x512 .bf16 :=
  concatenate S256x512 0
    [⟨S16x512, loHalf (code0 lo0 hi0 q0) (e 0 0 0)⟩,
     ⟨S16x512, hiHalf (code0 lo0 hi0 q0) (e 0 0 1)⟩,
     ⟨S16x512, loHalf (code1 lo0 hi0 q0) (e 0 1 0)⟩,
     ⟨S16x512, hiHalf (code1 lo0 hi0 q0) (e 0 1 1)⟩,
     ⟨S16x512, loHalf (code2 lo0 hi0 q0) (e 0 2 0)⟩,
     ⟨S16x512, hiHalf (code2 lo0 hi0 q0) (e 0 2 1)⟩,
     ⟨S16x512, loHalf (code3 lo0 hi0 q0) (e 0 3 0)⟩,
     ⟨S16x512, hiHalf (code3 lo0 hi0 q0) (e 0 3 1)⟩,
     ⟨S16x512, loHalf (code0 lo1 hi1 q1) (e 1 0 0)⟩,
     ⟨S16x512, hiHalf (code0 lo1 hi1 q1) (e 1 0 1)⟩,
     ⟨S16x512, loHalf (code1 lo1 hi1 q1) (e 1 1 0)⟩,
     ⟨S16x512, hiHalf (code1 lo1 hi1 q1) (e 1 1 1)⟩,
     ⟨S16x512, loHalf (code2 lo1 hi1 q1) (e 1 2 0)⟩,
     ⟨S16x512, hiHalf (code2 lo1 hi1 q1) (e 1 2 1)⟩,
     ⟨S16x512, loHalf (code3 lo1 hi1 q1) (e 1 3 0)⟩,
     ⟨S16x512, hiHalf (code3 lo1 hi1 q1) (e 1 3 1)⟩]
    concatenates_S16x512_S16x512_S16x512_S16x512_S16x512_S16x512_S16x512_S16x512_S16x512_S16x512_S16x512_S16x512_S16x512_S16x512_S16x512_S16x512_S256x512_d0

/-! ## One trip -/

/-- What the trip stores in the scratch buffer of scale rows. -/
abbrev eStore (sc : Vec F S44x16x512 .i8) (d : Vec F S44x512 .f32) (k : Fin k0_t1_loop.trips) : Vec F S16x2x512 .bf16 :=
  k0_pay8 (View.ld (Val := Elt F) (e' := .i8) sc (Rect.unit (s := S44x16x512) (k0_off1 k) S1x16x512.size (k0_off1_inb k)))
    (View.ld (Val := Elt F) (e' := .f32) d (Rect.unit (s := S44x512) (k0_off2 k) S1x512.size (k0_off2_inb k)))

/-- The rectangle it stores at, -/
abbrev eRect (k : Fin k0_t1_loop.trips) : Rect S704x2x512 := Rect.unit (s := S704x2x512) (k0_off3 k) S16x2x512.size (k0_off3_inb k)

/-- and the one each scale row is read back from. -/
abbrev rowRect (k : Fin k0_t1_loop.trips) (h : Fin 2) (f : Fin 4) (i : Fin 2) : Rect S704x2x512 :=
  Rect.unit (s := S704x2x512) (k0_off7 k (BitVec.ofNat 32 (8 * h.val)) (BitVec.ofNat 32 (2 * f.val)) (BitVec.ofNat 32 i.val))
    S1x2x512.size (k0_off7_inb k h f i)

/-- A scale row as read back. -/
def eRow (sc : Vec F S44x16x512 .i8) (d : Vec F S44x512 .f32) (k : Fin k0_t1_loop.trips) (h : Fin 2) (f : Fin 4) (i : Fin 2) :
    Vec F S1x2x512 .bf16 :=
  fun j => View.canon (Val := Elt F) (e := .bf16) [⟨eRect k, eStore sc d k⟩] ((rowRect k h f i).idx j)

/-- The block's weight, from the blocks of the inputs. -/
def tripWeight (ql : Vec F S44x2x64x512 .i8) (qh : Vec F S44x2x32x512 .i8) (sc : Vec F S44x16x512 .i8) (d : Vec F S44x512 .f32)
    (k : Fin k0_t1_loop.trips) : FVec F S256x512 .bf16 :=
  weight (View.ld (Val := Elt F) (e' := .i8) ql (Rect.unit (s := S44x2x64x512) (k0_off4 k) S1x1x32x512.size (k0_off4_inb k)))
    (View.ld (Val := Elt F) (e' := .i8) ql (Rect.unit (s := S44x2x64x512) (k0_off5 k) S1x1x32x512.size (k0_off5_inb k)))
    (View.ld (Val := Elt F) (e' := .i8) qh (Rect.unit (s := S44x2x32x512) (k0_off6 k) S1x1x32x512.size (k0_off6_inb k)))
    (View.ld (Val := Elt F) (e' := .i8) ql (Rect.unit (s := S44x2x64x512) (k0_off8 k) S1x1x32x512.size (k0_off8_inb k)))
    (View.ld (Val := Elt F) (e' := .i8) ql (Rect.unit (s := S44x2x64x512) (k0_off9 k) S1x1x32x512.size (k0_off9_inb k)))
    (View.ld (Val := Elt F) (e' := .i8) qh (Rect.unit (s := S44x2x32x512) (k0_off10 k) S1x1x32x512.size (k0_off10_inb k)))
    (eRow sc d k)

/-- One trip's accumulator. -/
def trip (x : Vec F S192x11264 .bf16) (ql : Vec F S44x2x64x512 .i8) (qh : Vec F S44x2x32x512 .i8) (sc : Vec F S44x16x512 .i8)
    (d : Vec F S44x512 .f32) (k : Fin k0_t1_loop.trips) (acc : FVec F S192x512 .f32) : FVec F S192x512 .f32 :=
  k0_pay6 acc (tripWeight ql qh sc d k)
    (View.ld (Val := Elt F) (e' := .bf16) x (Rect.unit (s := S192x11264) (k0_off11 k) S192x256.size (k0_off11_inb k)))

/-- The accumulator before trip `n`. -/
def accAt (x : Vec F S192x11264 .bf16) (ql : Vec F S44x2x64x512 .i8) (qh : Vec F S44x2x32x512 .i8) (sc : Vec F S44x16x512 .i8)
    (d : Vec F S44x512 .f32) : ℕ → FVec F S192x512 .f32
  | 0 => k0_pay2
  | n + 1 => if h : n < k0_t1_loop.trips then trip x ql qh sc d ⟨n, h⟩ (accAt x ql qh sc d n) else accAt x ql qh sc d n

/-- What one grid point leaves in the output block. -/
def tile (x : Vec F S192x11264 .bf16) (ql : Vec F S44x2x64x512 .i8) (qh : Vec F S44x2x32x512 .i8) (sc : Vec F S44x16x512 .i8)
    (d : Vec F S44x512 .i16) : FVec F S192x512 .bf16 :=
  k0_pay7 (accAt x ql qh sc (k0_pay1 d) k0_t1_loop.trips)

/-! ## The generated loop's trip is this one -/

/-- The trip's result as the generated run found it, the scale rows read back through the scratch memref. -/
theorem tripR_raw (𝒱 : Variants) (c : Dev nD) (bd : Option 𝒱.V) (i : grid0.Coords) (arg1 : Memref sig .tc .vmem S192x11264 .bf16) (harg1 : arg1.IsWhole) (arg2 : Memref sig .tc .vmem S44x2x64x512 .i8) (harg2 : arg2.IsWhole) (arg3 : Memref sig .tc .vmem S44x2x32x512 .i8) (harg3 : arg3.IsWhole) (arg4 : Memref sig .tc .vmem S44x16x512 .i8) (harg4 : arg4.IsWhole) (arg5 : Memref sig .tc .vmem S44x512 .i16) (harg5 : arg5.IsWhole) (arg6 : Memref sig .tc .vmem S192x512 .bf16) (harg6 : arg6.IsWhole) (arg7 : Memref sig .tc .vmem S704x2x512 .bf16) (harg7 : arg7.IsWhole) (arg8 : Memref sig .tc .vmem S44x512 .f32) (harg8 : arg8.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg8 : BufTy.Contents (Elt F) arg8.view.ty) (k : Fin k0_t1_loop.trips) (acc : FVec F S192x512 .f32) (f : BufTy.Contents (Elt F) arg7.view.ty) :
    tripR_k0_t1 (F := F) 𝒱 c bd i arg1 harg1 arg2 harg2 arg3 harg3 arg4 harg4 arg5 harg5 arg6 harg6 arg7 harg7 arg8 harg8 X_arg1 X_arg2 X_arg3 X_arg4 X_arg8 k acc f
      = k0_pay6 acc
          (weight (arg2.view.readAt (Elt F) (Rect.unit (s := S44x2x64x512) (k0_off4 k) S1x1x32x512.size (k0_off4_inb k)).toLoadRect X_arg2)
            (arg2.view.readAt (Elt F) (Rect.unit (s := S44x2x64x512) (k0_off5 k) S1x1x32x512.size (k0_off5_inb k)).toLoadRect X_arg2)
            (arg3.view.readAt (Elt F) (Rect.unit (s := S44x2x32x512) (k0_off6 k) S1x1x32x512.size (k0_off6_inb k)).toLoadRect X_arg3)
            (arg2.view.readAt (Elt F) (Rect.unit (s := S44x2x64x512) (k0_off8 k) S1x1x32x512.size (k0_off8_inb k)).toLoadRect X_arg2)
            (arg2.view.readAt (Elt F) (Rect.unit (s := S44x2x64x512) (k0_off9 k) S1x1x32x512.size (k0_off9_inb k)).toLoadRect X_arg2)
            (arg3.view.readAt (Elt F) (Rect.unit (s := S44x2x32x512) (k0_off10 k) S1x1x32x512.size (k0_off10_inb k)).toLoadRect X_arg3)
            (fun h f i => arg7.view.readCov (Val := Elt F)
              [⟨eRect k, k0_pay8 (arg4.view.readAt (Elt F) (Rect.unit (s := S44x16x512) (k0_off1 k) S1x16x512.size (k0_off1_inb k)).toLoadRect X_arg4)
                (arg8.view.readAt (Elt F) (Rect.unit (s := S44x512) (k0_off2 k) S1x512.size (k0_off2_inb k)).toLoadRect X_arg8)⟩]
              (rowRect k h f i).toLoadRect))
          (arg1.view.readAt (Elt F) (Rect.unit (s := S192x11264) (k0_off11 k) S192x256.size (k0_off11_inb k)).toLoadRect X_arg1) := by
  unfold tripR_k0_t1 trip_k0_t1
  rfl

/-- It is `trip` of what the memrefs read. -/
theorem tripR_eq (𝒱 : Variants) (c : Dev nD) (bd : Option 𝒱.V) (i : grid0.Coords) (arg1 : Memref sig .tc .vmem S192x11264 .bf16) (harg1 : arg1.IsWhole) (arg2 : Memref sig .tc .vmem S44x2x64x512 .i8) (harg2 : arg2.IsWhole) (arg3 : Memref sig .tc .vmem S44x2x32x512 .i8) (harg3 : arg3.IsWhole) (arg4 : Memref sig .tc .vmem S44x16x512 .i8) (harg4 : arg4.IsWhole) (arg5 : Memref sig .tc .vmem S44x512 .i16) (harg5 : arg5.IsWhole) (arg6 : Memref sig .tc .vmem S192x512 .bf16) (harg6 : arg6.IsWhole) (arg7 : Memref sig .tc .vmem S704x2x512 .bf16) (harg7 : arg7.IsWhole) (arg8 : Memref sig .tc .vmem S44x512 .f32) (harg8 : arg8.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg8 : BufTy.Contents (Elt F) arg8.view.ty) (k : Fin k0_t1_loop.trips) (acc : FVec F S192x512 .f32) (f : BufTy.Contents (Elt F) arg7.view.ty) :
    tripR_k0_t1 (F := F) 𝒱 c bd i arg1 harg1 arg2 harg2 arg3 harg3 arg4 harg4 arg5 harg5 arg6 harg6 arg7 harg7 arg8 harg8 X_arg1 X_arg2 X_arg3 X_arg4 X_arg8 k acc f
      = trip (arg1.view.read (Elt F) X_arg1) (arg2.view.read (Elt F) X_arg2) (arg3.view.read (Elt F) X_arg3)
          (arg4.view.read (Elt F) X_arg4) (arg8.view.read (Elt F) X_arg8) k acc := by
  rw [tripR_raw]
  simp only [View.readCov_eq_canon']
  rfl

/-- So the loop's carried value before trip `n` is `accAt`. -/
theorem st_eq (𝒱 : Variants) (c : Dev nD) (bd : Option 𝒱.V) (i : grid0.Coords) (arg1 : Memref sig .tc .vmem S192x11264 .bf16) (harg1 : arg1.IsWhole) (arg2 : Memref sig .tc .vmem S44x2x64x512 .i8) (harg2 : arg2.IsWhole) (arg3 : Memref sig .tc .vmem S44x2x32x512 .i8) (harg3 : arg3.IsWhole) (arg4 : Memref sig .tc .vmem S44x16x512 .i8) (harg4 : arg4.IsWhole) (arg5 : Memref sig .tc .vmem S44x512 .i16) (harg5 : arg5.IsWhole) (arg6 : Memref sig .tc .vmem S192x512 .bf16) (harg6 : arg6.IsWhole) (arg7 : Memref sig .tc .vmem S704x2x512 .bf16) (harg7 : arg7.IsWhole) (arg8 : Memref sig .tc .vmem S44x512 .f32) (harg8 : arg8.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg8 : BufTy.Contents (Elt F) arg8.view.ty) (G_arg7 : BufTy.Contents (Elt F) arg7.view.ty) :
    ∀ n : ℕ, n ≤ k0_t1_loop.trips →
      (st_k0_t1 (F := F) 𝒱 c bd i arg1 harg1 arg2 harg2 arg3 harg3 arg4 harg4 arg5 harg5 arg6 harg6 arg7 harg7 arg8 harg8 X_arg1 X_arg2 X_arg3 X_arg4 X_arg8 G_arg7 k0_pay2 n).1
        = accAt (arg1.view.read (Elt F) X_arg1) (arg2.view.read (Elt F) X_arg2) (arg3.view.read (Elt F) X_arg3)
          (arg4.view.read (Elt F) X_arg4) (arg8.view.read (Elt F) X_arg8) n
  | 0, _ => rfl
  | n + 1, h => by
    have hn : n < k0_t1_loop.trips := h
    rw [st_k0_t1_succ (F := F) 𝒱 c bd i arg1 harg1 arg2 harg2 arg3 harg3 arg4 harg4 arg5 harg5 arg6 harg6 arg7 harg7 arg8 harg8 X_arg1 X_arg2 X_arg3 X_arg4 X_arg8 G_arg7 k0_pay2 ⟨n, hn⟩, accAt, dif_pos hn]
    dsimp only
    rw [tripR_eq, st_eq 𝒱 c bd i arg1 harg1 arg2 harg2 arg3 harg3 arg4 harg4 arg5 harg5 arg6 harg6 arg7 harg7 arg8 harg8 X_arg1 X_arg2 X_arg3 X_arg4 X_arg8 G_arg7 n (Nat.le_of_succ_le h)]

theorem hz2 : (![0, 0] : Fin 2 → Nat) = fun _ => 0 := funext fun a => by fin_cases a <;> rfl

/-- A store of the whole shape reads back as what was stored. -/
theorem read_whole {sg : RefSig} {κ : Kind} {sp : Space} {S : Shape} {e : EltTy} (v : View sg κ sp S e) (f : BufTy.Contents (Elt F) v.ty)
    {off : Fin S.rank → Nat} (hz : off = fun _ => 0) (inb : ∀ a, off a + S.size a ≤ S.size a) (w : Vec F S e) :
    v.read (Elt F) (v.writes (Elt F) f [⟨Rect.unit off S.size inb, w⟩]) = w := by
  rw [View.read_writes_eq_canon _ _ _ (fun y => ⟨_, List.mem_singleton_self _, View.mem_set_unit_zero hz inb y⟩),
    View.canon_unit_zero hz]

/-- What the body's last store leaves in the output block: `tile` of the input blocks, whatever the scratch buffers held. -/
theorem read_out (c : Dev nD) (i : grid0.Coords) (arg1 : Memref sig .tc .vmem S192x11264 .bf16) (harg1 : arg1.IsWhole) (arg2 : Memref sig .tc .vmem S44x2x64x512 .i8) (harg2 : arg2.IsWhole) (arg3 : Memref sig .tc .vmem S44x2x32x512 .i8) (harg3 : arg3.IsWhole) (arg4 : Memref sig .tc .vmem S44x16x512 .i8) (harg4 : arg4.IsWhole) (arg5 : Memref sig .tc .vmem S44x512 .i16) (harg5 : arg5.IsWhole) (arg6 : Memref sig .tc .vmem S192x512 .bf16) (harg6 : arg6.IsWhole) (arg7 : Memref sig .tc .vmem S704x2x512 .bf16) (harg7 : arg7.IsWhole) (arg8 : Memref sig .tc .vmem S44x512 .f32) (harg8 : arg8.IsWhole)
    (x0 : Vec F S192x11264 .bf16) (x1 : Vec F S44x2x64x512 .i8) (x2 : Vec F S44x2x32x512 .i8) (x3 : Vec F S44x16x512 .i8) (x4 : Vec F S44x512 .i16)
    (f5 : BufTy.Contents (Elt F) arg6.view.ty) (fs0 : BufTy.Contents (Elt F) arg7.view.ty) (fs1 : BufTy.Contents (Elt F) arg8.view.ty) :
    arg6.view.read (Elt F) (arg6.view.writes (Elt F) f5
      [⟨Rect.unit (s := S192x512) ![0, 0] S192x512.size inb_S192x512_S192x512_0_0, k0_pay7
        (st_k0_t1 (F := F) Variants.none c none i arg1 harg1 arg2 harg2 arg3 harg3 arg4 harg4 arg5 harg5 arg6 harg6 arg7 harg7 arg8 harg8 (harg1.unread x0) (harg2.unread x1) (harg3.unread x2) (harg4.unread x3)
          (arg8.view.writes (Elt F) fs1 [⟨Rect.unit (s := S44x512) ![0, 0] S44x512.size inb_S44x512_S44x512_0_0,
            k0_pay1 (arg5.view.readAt (Elt F) (Rect.unit (s := S44x512) ![0, 0] S44x512.size inb_S44x512_S44x512_0_0).toLoadRect (harg5.unread x4))⟩])
          fs0 k0_pay2 k0_t1_loop.trips).1⟩])
      = tile x0 x1 x2 x3 x4 := by
  have h8 : arg8.view.read (Elt F) (arg8.view.writes (Elt F) fs1 [⟨Rect.unit (s := S44x512) ![0, 0] S44x512.size inb_S44x512_S44x512_0_0,
      k0_pay1 (arg5.view.readAt (Elt F) (Rect.unit (s := S44x512) ![0, 0] S44x512.size inb_S44x512_S44x512_0_0).toLoadRect (harg5.unread x4))⟩])
      = k0_pay1 x4 := by
    refine (read_whole arg8.view fs1 hz2 _ _).trans ?_
    rw [View.readAt_eq_ld, harg5.read_unread, View.ld_unit_zero (S := S44x512) hz2]
  refine (read_whole arg6.view f5 hz2 _ _).trans ?_
  refine congrArg k0_pay7 ?_
  refine (st_eq (F := F) Variants.none c none i arg1 harg1 arg2 harg2 arg3 harg3 arg4 harg4 arg5 harg5 arg6 harg6 arg7 harg7 arg8 harg8 _ _ _ _ _ fs0 k0_t1_loop.trips le_rfl).trans ?_
  rw [harg1.read_unread, harg2.read_unread, harg3.read_unread, harg4.read_unread, h8]

end Cert.KernelIdeal.Trip

end
-- ==== Proof.IdealRun.lean ====
/-
  The run of the idealized kernel with its result named: @main terminates, leaves its five argument arrays as launched, ends
  with every semaphore counter at zero, and each grid point leaves `tile` of its input blocks in the output block.
-/
module

public import proofs.«01_k».proof.Proof.IdealTrip
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Trip

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body, on any whole buffers -/

set_option maxHeartbeats 1000000 in
/-- The body's triple. The five inputs are held at known contents and come back unchanged; the output block and the two
    scratch buffers are held at any contents, and the output block ends holding `tile`. The loop goes
    through by its invariant. -/
theorem body_run (c : Dev nD) (i : grid0.Coords) (arg1 : Memref sig .tc .vmem S192x11264 .bf16) (harg1 : arg1.IsWhole) (arg2 : Memref sig .tc .vmem S44x2x64x512 .i8) (harg2 : arg2.IsWhole) (arg3 : Memref sig .tc .vmem S44x2x32x512 .i8) (harg3 : arg3.IsWhole) (arg4 : Memref sig .tc .vmem S44x16x512 .i8) (harg4 : arg4.IsWhole) (arg5 : Memref sig .tc .vmem S44x512 .i16) (harg5 : arg5.IsWhole) (arg6 : Memref sig .tc .vmem S192x512 .bf16) (harg6 : arg6.IsWhole) (arg7 : Memref sig .tc .vmem S704x2x512 .bf16) (harg7 : arg7.IsWhole) (arg8 : Memref sig .tc .vmem S44x512 .f32) (harg8 : arg8.IsWhole)
    (x0 : Vec F S192x11264 .bf16) (x1 : Vec F S44x2x64x512 .i8) (x2 : Vec F S44x2x32x512 .i8) (x3 : Vec F S44x16x512 .i8) (x4 : Vec F S44x512 .i16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (tile x0 x1 x2 x3 x4) ∗ (∃ d, owns (c : Thread nD τ) arg7 fullShare d) ∗ (∃ d, owns (c : Thread nD τ) arg8 fullShare d)) -∗ K ⟨⟩))
      ⊢ wp frame (wpE (defs₀ (F := F)) Variants.none c none) E (cc0_q6k_linear i arg1 harg1 arg2 harg2 arg3 harg3 arg4 harg4 arg5 harg5 arg6 harg6 arg7 harg7 arg8 harg8) K := by
  simp only [cc0_q6k_linear_eq_skeleton]; unfold cc0_q6k_linear_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    exact read_out c i arg1 harg1 arg2 harg2 arg3 harg3 arg4 harg4 arg5 harg5 arg6 harg6 arg7 harg7 arg8 harg8 x0 x1 x2 x3 x4 f5 fs0 arg8.view.junk
  isplitl [HS0]
  · iexists _, _; isplitr; swap; · iexact HS0
    ipureintro; rfl
  iexists _, _; isplitr; swap; · iexact HS1
  ipureintro; rfl

/-! ## The pipeline's proof data -/

/-- The proof data on core `c`: each array as the region finds it; after the body each input's block unchanged, the output's
    at `tile` of the input blocks; the scratch buffers at some contents throughout; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tile (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = tile (iblk m c 0 t) (iblk m c 1 t) (iblk m c 2 t) (iblk m c 3 t) (iblk m c 4 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

abbrev ms0_0 (t : Fin cfg0.N) : Memref sig .tc .vmem S192x11264 .bf16 := win0_0.stage (cfg0.slots t 0)
abbrev ms0_1 (t : Fin cfg0.N) : Memref sig .tc .vmem S44x2x64x512 .i8 := win0_1.stage (cfg0.slots t 1)
abbrev ms0_2 (t : Fin cfg0.N) : Memref sig .tc .vmem S44x2x32x512 .i8 := win0_2.stage (cfg0.slots t 2)
abbrev ms0_3 (t : Fin cfg0.N) : Memref sig .tc .vmem S44x16x512 .i8 := win0_3.stage (cfg0.slots t 3)
abbrev ms0_4 (t : Fin cfg0.N) : Memref sig .tc .vmem S44x512 .i16 := win0_4.stage (cfg0.slots t 4)
abbrev ms0_5 (t : Fin cfg0.N) : Memref sig .tc .vmem S192x512 .bf16 := win0_5.stage (cfg0.slots t 5)
/-- The two scratch buffers. -/
abbrev scM0_0 : Memref sig .tc .vmem S704x2x512 .bf16 := Memref.whole cc0_scratch0
abbrev scM0_1 : Memref sig .tc .vmem S44x512 .f32 := Memref.whole cc0_scratch1

/-- The region's invariant, with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
/-- The body at any point: the inputs' buffers hold their blocks, so `body_run` applies; the invariant lends the scratch
    buffers and takes them back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: every weakly fair execution terminates, at the pipeline's post and every semaphore counter zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end as launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the argument arrays end as launched and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Run

end
-- ==== Proof.Frames.lean ====
/-
  The frames of the three programs, and the idealized kernel's rule sites.
-/
module

public import proofs.«01_k».proof.Defs
public import proofs.«01_k».proof.Proof.KernelRun
public import proofs.«01_k».proof.Proof.IdealRun
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Claim
public import Idealize.ShloMosaic.Lib.Bf16PairInverse
public import Idealize.ShloMosaic.Adequacy
public import Idealize.ShloMosaic.Init

@[expose] public section

noncomputable section

namespace Cert.Proof

open Idealize.ShloMosaic Idealize.SL.Sem

theorem frame_p : Cert.quiescent_Kernel := fun m ρ _ => Cert.Kernel.Run.frame m ρ

theorem frame_pi : Cert.quiescent_KernelIdeal := fun m ρ _ => Cert.KernelIdeal.Run.frame m ρ

theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The scratch of words held as pairs of sixteen-bit rows; the scale rows packed in pairs; and the rows' three access shapes. -/
theorem preserves : Cert.preserves_Kernel_KernelIdeal :=
  open Cert.KernelIdeal IdealRules.bf16_pair in
  ⟨bufferStatement S704x2x512 S704x1x512, packStatement S16x512, statement S16x2x512 S16x1x512,
    statement S1x2x512 S1x1x512, statement S16x512 S8x512⟩

end Cert.Proof

end
-- ==== Proof.Bytes.lean ====
/-
  The codes, byte by byte. The kernel decodes four codes at a time in one 32-bit word; each of its word operations acts on
  the four bytes separately, and on one byte it computes the signed code that the format defines: the low four bits, and the
  two high bits moved down by 32.
-/
module

public import Mathlib.Data.BitVec
public import Mathlib.Tactic.FinCases
public import Mathlib.Tactic.IntervalCases
public import Mathlib.Tactic.Linarith
public import Mathlib.Tactic.Ring
public import Idealize.ShloMosaic.Lib.BitcastFour

@[expose] public section

set_option maxRecDepth 16384

namespace Cert.Bytes

/-- Byte `t` of a word. -/
def byt (t : Fin 4) (w : BitVec 32) : BitVec 8 := w.extractLsb' (8 * t.val) 8

theorem byt_bit (t : Fin 4) (w : BitVec 32) (i : ℕ) (hi : i < 8) : (byt t w).getLsbD i = w.getLsbD (8 * t.val + i) := by
  unfold byt; simp [BitVec.getLsbD_extractLsb', hi]

theorem byt_and (t : Fin 4) (a b : BitVec 32) : byt t (a &&& b) = byt t a &&& byt t b := by
  apply BitVec.eq_of_getLsbD_eq; intro i hi
  simp only [BitVec.getLsbD_and, byt_bit _ _ _ hi]

theorem byt_or (t : Fin 4) (a b : BitVec 32) : byt t (a ||| b) = byt t a ||| byt t b := by
  apply BitVec.eq_of_getLsbD_eq; intro i hi
  simp only [BitVec.getLsbD_or, byt_bit _ _ _ hi]

theorem byt_xor (t : Fin 4) (a b : BitVec 32) : byt t (a ^^^ b) = byt t a ^^^ byt t b := by
  apply BitVec.eq_of_getLsbD_eq; intro i hi
  simp only [BitVec.getLsbD_xor, byt_bit _ _ _ hi]

theorem byt_toNat (t : Fin 4) (w : BitVec 32) : (byt t w).toNat = w.toNat / 2 ^ (8 * t.val) % 256 := by
  unfold byt; simp [BitVec.extractLsb'_toNat, Nat.shiftRight_eq_div_pow]

/-- A number below `2 ^ 32` by its four digits to the base 256, -/
theorem four_digits (a : ℕ) (h : a < 2 ^ 32) :
    a = a / 2 ^ (8 * 0) % 256 + 256 * (a / 2 ^ (8 * 1) % 256) + 65536 * (a / 2 ^ (8 * 2) % 256) + 16777216 * (a / 2 ^ (8 * 3) % 256) := by
  have h1 : a / 2 ^ (8 * 1) = a / 256 := rfl
  have h2 : a / 2 ^ (8 * 2) = a / 256 / 256 := (Nat.div_div_eq_div_mul a 256 256).symm
  have h3 : a / 2 ^ (8 * 3) = a / 256 / 256 / 256 := by
    rw [← h2]; exact (Nat.div_div_eq_div_mul a 65536 256).symm
  rw [h1, h2, h3, Nat.mul_zero, Nat.pow_zero, Nat.div_one]
  generalize h4 : a / 256 = x
  generalize h5 : x / 256 = y
  generalize h6 : y / 256 = z
  omega

/-- and the digits of a number given by them. -/
theorem digit_of (s : Fin 4 → ℕ) (h : ∀ t, s t < 256) (t : Fin 4) :
    (s 0 + 256 * s 1 + 65536 * s 2 + 16777216 * s 3) / 2 ^ (8 * t.val) % 256 = s t := by
  have h0 := h 0; have h1 := h 1; have h2 := h 2; have h3 := h 3
  match t with
  | 0 => show _ / 1 % 256 = _; omega
  | 1 => show _ / 256 % 256 = _; omega
  | 2 => show _ / 65536 % 256 = _; omega
  | 3 => show _ / 16777216 % 256 = _; omega

/-- A sum whose bytes do not overflow is taken byte by byte. -/
theorem byt_add (t : Fin 4) (a b : BitVec 32) (h : ∀ s : Fin 4, (byt s a).toNat + (byt s b).toNat < 256) :
    byt t (a + b) = byt t a + byt t b := by
  apply BitVec.eq_of_toNat_eq
  rw [BitVec.toNat_add, Nat.mod_eq_of_lt (h t), byt_toNat, BitVec.toNat_add]
  have ha := four_digits a.toNat a.isLt
  have hb := four_digits b.toNat b.isLt
  have e : a.toNat + b.toNat = ((byt 0 a).toNat + (byt 0 b).toNat) + 256 * ((byt 1 a).toNat + (byt 1 b).toNat)
      + 65536 * ((byt 2 a).toNat + (byt 2 b).toNat) + 16777216 * ((byt 3 a).toNat + (byt 3 b).toNat) := by
    simp only [byt_toNat]
    rw [Nat.mul_add, Nat.mul_add, Nat.mul_add]
    conv_lhs => rw [ha, hb]
    simp only [Fin.val_zero, Fin.val_one, Fin.val_two, Fin.isValue, show (3 : Fin 4).val = 3 from rfl]
    ac_rfl
  clear ha hb
  have h0 := h 0; have h1 := h 1; have h2 := h 2; have h3 := h 3
  have hlt : a.toNat + b.toNat < 2 ^ 32 := by rw [e]; clear e; omega
  rw [Nat.mod_eq_of_lt hlt, e]
  exact digit_of (fun s => (byt s a).toNat + (byt s b).toNat) h t

/-- The word of one byte four times. -/
theorem byt_33 (t : Fin 4) : byt t 858993459#32 = 0x33#8 := by revert t; decide
theorem byt_66 (t : Fin 4) : byt t 1717986918#32 = 0x66#8 := by revert t; decide
theorem byt_88 (t : Fin 4) : byt t 2290649224#32 = 0x88#8 := by revert t; decide
theorem byt_0f (t : Fin 4) : byt t 252645135#32 = 15#8 := by revert t; decide

theorem byt_shl4 (t : Fin 4) (w : BitVec 32) : byt t ((w &&& 252645135#32) <<< 4) = (byt t w &&& 15#8) <<< 4 := by
  apply BitVec.eq_of_getLsbD_eq; intro i hi
  rw [byt_bit _ _ _ hi, BitVec.getLsbD_shiftLeft, BitVec.getLsbD_shiftLeft, BitVec.getLsbD_and, BitVec.getLsbD_and]
  by_cases h4 : i < 4
  · fin_cases t <;> interval_cases i <;> simp
  · rw [byt_bit _ _ _ (by omega : i - 4 < 8)]
    fin_cases t <;> interval_cases i <;> simp_all

theorem byt_shr4 (t : Fin 4) (w : BitVec 32) : byt t ((w >>> 4) &&& 252645135#32) = byt t w >>> 4 := by
  apply BitVec.eq_of_getLsbD_eq; intro i hi
  rw [byt_bit _ _ _ hi, BitVec.getLsbD_and, BitVec.getLsbD_ushiftRight, BitVec.getLsbD_ushiftRight]
  by_cases h4 : i < 4
  · rw [byt_bit _ _ _ (by omega : 4 + i < 8)]
    fin_cases t <;> interval_cases i <;> simp
  · rw [BitVec.getLsbD_of_ge (byt t w) (4 + i) (by omega)]
    fin_cases t <;> interval_cases i <;> simp_all

theorem byt_shr2 (t : Fin 4) (w : BitVec 32) :
    byt t ((w >>> 2) &&& 858993459#32) = (byt t w >>> 2) &&& 0x33#8 := by
  apply BitVec.eq_of_getLsbD_eq; intro i hi
  rw [byt_bit _ _ _ hi, BitVec.getLsbD_and, BitVec.getLsbD_and, BitVec.getLsbD_ushiftRight, BitVec.getLsbD_ushiftRight]
  by_cases h4 : i < 6
  · rw [byt_bit _ _ _ (by omega : 2 + i < 8)]
    fin_cases t <;> interval_cases i <;> simp
  · rw [BitVec.getLsbD_of_ge (byt t w) (2 + i) (by omega)]
    fin_cases t <;> interval_cases i <;> simp_all

/-- The high parts of one byte. -/
def hb (q : BitVec 8) : BitVec 8 := ((q &&& 0x33#8) + 0x66#8) ^^^ 0x88#8

theorem byt_high_of (t : Fin 4) (m : BitVec 32) (hm : ∀ s : Fin 4, (byt s m).toNat ≤ 0x33) :
    byt t ((m + 1717986918#32) ^^^ 2290649224#32) = (byt t m + 0x66#8) ^^^ 0x88#8 := by
  rw [byt_xor, byt_88, byt_add, byt_66]
  intro s
  have := hm s
  rw [byt_66]
  show _ + 102 < 256
  omega

theorem and_33_le (x : BitVec 8) : (x &&& 0x33#8).toNat ≤ 0x33 := by
  rw [BitVec.toNat_and]; exact Nat.and_le_right

theorem byt_high (t : Fin 4) (w : BitVec 32) :
    byt t (((w &&& 858993459#32) + 1717986918#32) ^^^ 2290649224#32) = hb (byt t w) := by
  rw [byt_high_of]
  · rw [byt_and, byt_33]; rfl
  · intro s; rw [byt_and, byt_33]; exact and_33_le _

theorem byt_high_shr2 (t : Fin 4) (w : BitVec 32) :
    byt t ((((w >>> 2) &&& 858993459#32) + 1717986918#32) ^^^ 2290649224#32) = hb (byt t w >>> 2) := by
  rw [byt_high_of]
  · rw [byt_shr2]; rfl
  · intro s; rw [byt_shr2]; exact and_33_le _

/-- The signed code of a low part `l` (four bits) and a high part `h` (two bits). -/
def joined (l : Fin 16) (h : Fin 4) : ℤ := (l.val : ℤ) + 16 * (h.val : ℤ) - 32

/-- Low four bits of a byte, and its high four. -/
def lowNib (b : BitVec 8) : Fin 16 := ⟨b.toNat % 16, Nat.mod_lt _ (by decide)⟩
def highNib (b : BitVec 8) : Fin 16 := ⟨b.toNat / 16, by have := b.isLt; omega⟩
/-- Two-bit field `k` of a byte. -/
def field (k : Fin 4) (b : BitVec 8) : Fin 4 := ⟨b.toNat / 4 ^ k.val % 4, Nat.mod_lt _ (by decide)⟩

/-- The two high bits moved down by 32, as the byte's upper half. -/
def upper (h : Fin 4) : BitVec 8 := BitVec.ofNat 8 ((h.val + 14) % 16 * 16)

theorem low_eq (b : BitVec 8) : b &&& 15#8 = BitVec.ofNat 8 (lowNib b).val := by revert b; decide +kernel
theorem high_eq (b : BitVec 8) : b >>> 4 = BitVec.ofNat 8 (highNib b).val := by revert b; decide +kernel
theorem upper0 (q : BitVec 8) : (hb q &&& 15#8) <<< 4 = upper (field 0 q) := by revert q; decide +kernel
theorem upper1 (q : BitVec 8) : (hb (q >>> 2) &&& 15#8) <<< 4 = upper (field 1 q) := by revert q; decide +kernel
theorem upper2 (q : BitVec 8) : (hb q >>> 4) <<< 4 = upper (field 2 q) := by revert q; decide +kernel
theorem upper3 (q : BitVec 8) : (hb (q >>> 2) >>> 4) <<< 4 = upper (field 3 q) := by revert q; decide +kernel

theorem or_upper (l : Fin 16) (h : Fin 4) : (BitVec.ofNat 8 l.val ||| upper h).toInt = joined l h := by
  revert l h; decide +kernel

/-- The four codes of one byte column: what the kernel's word operations leave in byte `t`, read as a signed number. -/
theorem code0 (t : Fin 4) (lo q : BitVec 32) :
    (byt t ((lo &&& 252645135#32) ||| (((((q &&& 858993459#32) + 1717986918#32) ^^^ 2290649224#32) &&& 252645135#32) <<< 4))).toInt
      = joined (lowNib (byt t lo)) (field 0 (byt t q)) := by
  rw [byt_or, byt_and, byt_0f, byt_shl4, byt_high, upper0, low_eq, or_upper]

theorem code1 (t : Fin 4) (hi q : BitVec 32) :
    (byt t ((hi &&& 252645135#32) ||| ((((((q >>> 2) &&& 858993459#32) + 1717986918#32) ^^^ 2290649224#32) &&& 252645135#32) <<< 4))).toInt
      = joined (lowNib (byt t hi)) (field 1 (byt t q)) := by
  rw [byt_or, byt_and, byt_0f, byt_shl4, byt_high_shr2, upper1, low_eq, or_upper]

theorem and_and_0f (w : BitVec 32) : w &&& 252645135#32 &&& 252645135#32 = w &&& 252645135#32 := by
  rw [BitVec.and_assoc, BitVec.and_self]

theorem byt_shl4_shr4 (t : Fin 4) (w : BitVec 32) : byt t (((w >>> 4) &&& 252645135#32) <<< 4) = (byt t w >>> 4) <<< 4 := by
  rw [← and_and_0f, byt_shl4, byt_shr4]
  revert t w
  have : ∀ b : BitVec 8, (b >>> 4 &&& 15#8) <<< 4 = (b >>> 4) <<< 4 := by decide +kernel
  intro t w; exact this _

theorem code2 (t : Fin 4) (lo q : BitVec 32) :
    (byt t (((lo >>> 4) &&& 252645135#32) ||| ((((((q &&& 858993459#32) + 1717986918#32) ^^^ 2290649224#32) >>> 4) &&& 252645135#32) <<< 4))).toInt
      = joined (highNib (byt t lo)) (field 2 (byt t q)) := by
  rw [byt_or, byt_shr4, byt_shl4_shr4, byt_high, upper2, high_eq, or_upper]

theorem code3 (t : Fin 4) (hi q : BitVec 32) :
    (byt t (((hi >>> 4) &&& 252645135#32) ||| (((((((q >>> 2) &&& 858993459#32) + 1717986918#32) ^^^ 2290649224#32) >>> 4) &&& 252645135#32) <<< 4))).toInt
      = joined (highNib (byt t hi)) (field 3 (byt t q)) := by
  rw [byt_or, byt_shr4, byt_shl4_shr4, byt_high_shr2, upper3, high_eq, or_upper]

/-! ## The same codes as the plain formula writes them, on 32-bit integers -/

theorem low32 (b : BitVec 8) : b.setWidth 32 &&& 15#32 = BitVec.ofNat 32 (lowNib b).val := by revert b; decide +kernel
theorem high32 (b : BitVec 8) : (b.setWidth 32).sshiftRight 4 = BitVec.ofNat 32 (highNib b).val := by revert b; decide +kernel
theorem field32 (b : BitVec 8) : (b.setWidth 32 &&& 3#32) <<< 4 = BitVec.ofNat 32 (16 * (field 0 b).val)
    ∧ ((b.setWidth 32).sshiftRight 2 &&& 3#32) <<< 4 = BitVec.ofNat 32 (16 * (field 1 b).val)
    ∧ ((b.setWidth 32).sshiftRight 4 &&& 3#32) <<< 4 = BitVec.ofNat 32 (16 * (field 2 b).val)
    ∧ ((b.setWidth 32).sshiftRight 6 &&& 3#32) <<< 4 = BitVec.ofNat 32 (16 * (field 3 b).val) := by revert b; decide +kernel
theorem or32 (l : Fin 16) (h : Fin 4) :
    (BitVec.ofNat 32 l.val ||| BitVec.ofNat 32 (16 * h.val)).toInt = joined l h + 32 := by revert l h; decide +kernel

/-! ## One code from its three bytes -/

/-- The code of group `f` of a column of bytes: the low parts are in `lo` (groups 0 and 2) or `hi` (groups 1 and 3), the high
    parts in `q`. -/
def codeOf (f : Fin 4) (lo hi q : BitVec 8) : ℤ :=
  joined (![lowNib lo, lowNib hi, highNib lo, highNib hi] f) (field f q)

end Cert.Bytes

end
-- ==== Proof.Codes.lean ====
/-
  The weight of one block as the kernel builds it, element by element: row `128 h + 32 f + 16 i + a` of the block is the code of
  group `f` at row `16 i + a` of half `h`, times the scale row of that half, group and sixteen.
-/
module

public import proofs.«01_k».proof.Proof.IdealTrip
public import proofs.«01_k».proof.Proof.Bytes
public import Idealize.ShloMosaic.PureOps.Ideal
public import Idealize.ShloMosaic.Lib.BitcastFour
public import Idealize.ShloMosaic.Lib.BitcastPair
public import Idealize.ShloMosaic.Lib.ValueIdxCore
public import Idealize.ShloMosaic.Lib.Pointwise.ShapeOpsCore
public import Idealize.ShloMosaic.Lib.Pipeline.Value

@[expose] public section

noncomputable section

namespace Cert.KernelIdeal.Codes

open Cert.KernelIdeal Cert.KernelIdeal.Gen Cert.KernelIdeal.Trip Cert.Bytes
open Idealize.ShloMosaic hiding ix2 ix3 ix4
open Idealize.ShloMosaic.ValueIdx (ix2 ix3 ix4)

/-! ## Rows of bytes and rows of words -/

/-- Byte `t` of a word made of four rows of bytes is the byte of row `t`. -/
theorem byt_word (v : Vec Ideal S1x1x32x512 .i8) (a : Fin 8) (o : Fin 512) (t : Fin 4) :
    byt t (word v (ix2 a o)) = v (ix4 0 0 (⟨4 * a.val + t.val, by omega⟩ : Fin 32) o) := by
  have e : shapeCast S32x512 v shapeCasts_S1x1x32x512_S32x512 (ix2 (⟨4 * a.val + t.val, by omega⟩ : Fin 32) o)
      = v (ix4 0 0 (⟨4 * a.val + t.val, by omega⟩ : Fin 32) o) :=
    shapeCast_apply _ _ _ _ (by rw [Shape.rowMajor_val_four, Shape.rowMajor_val_two]; simp)
  rw [← e]
  apply BitVec.eq_of_getLsbD_eq
  intro i hi
  rw [byt_bit t _ i hi]
  have := bitcast_8_32_getLsbD_ix2 (shapeCast S32x512 v shapeCasts_S1x1x32x512_S32x512) bitcasts_S32x512_w8_S8x512_w32 a o
    (8 * t.val + i) (by omega) (⟨4 * a.val + t.val, by omega⟩ : Fin 32) (by show 4 * a.val + t.val = _; omega)
  rw [show (8 * t.val + i) % 8 = i by omega] at this
  exact this

/-- Words read as rows of bytes: row `4 a + t` is byte `t`. -/
theorem bytes_of_words (w : IVec S8x512 32) (a : Fin 8) (o : Fin 512) (t : Fin 4) :
    bitcast S32x512 8 w bitcasts_S8x512_w32_S32x512_w8 (ix2 (⟨4 * a.val + t.val, by omega⟩ : Fin 32) o) = byt t (w (ix2 a o)) := by
  apply BitVec.eq_of_getLsbD_eq
  intro i hi
  rw [byt_bit t _ i hi, bitcast_getLsbD _ _ _ i hi (by decide)]
  have hrow : S32x512.row (ix2 (⟨4 * a.val + t.val, by omega⟩ : Fin 32) o) = 4 * a.val + t.val := rfl
  have hm : (S32x512.row (ix2 (⟨4 * a.val + t.val, by omega⟩ : Fin 32) o) * 8 + i) % 32 = 8 * t.val + i := by rw [hrow]; omega
  rw [hm]
  congr 2
  funext c
  match c with
  | ⟨0, _⟩ =>
    refine Fin.ext ((Shape.Bitcasts.srcIdx_row _ _ _ _ ⟨0, Nat.zero_lt_two⟩ rfl).trans ?_)
    rw [hrow]; show _ = a.val; omega
  | ⟨1, _⟩ => exact Fin.ext (Shape.Bitcasts.srcIdx_other _ _ _ _ ⟨1, Nat.one_lt_two⟩ (by show ¬ 1 + 2 = 2; omega))

/-! ## The codes -/

/-- The four groups under one name. -/
def code (f : Fin 4) (lo hi q : Vec Ideal S1x1x32x512 .i8) : IVec S32x512 8 :=
  match f with
  | 0 => code0 lo hi q
  | 1 => code1 lo hi q
  | 2 => code2 lo hi q
  | 3 => code3 lo hi q

theorem nib_apply (x y : IVec S8x512 32) (a : Fin 8) (o : Fin 512) (t : Fin 4) :
    nib x y (ix2 (⟨4 * a.val + t.val, by omega⟩ : Fin 32) o)
      = byt t ((x (ix2 a o) &&& 252645135#32) ||| ((y (ix2 a o) &&& 252645135#32) <<< 4)) :=
  bytes_of_words _ a o t

theorem high_apply (w : IVec S8x512 32) (j : S8x512.Idx) :
    high w j = ((w j &&& 858993459#32) + 1717986918#32) ^^^ 2290649224#32 := rfl

theorem shr2_apply (w : IVec S8x512 32) (j : S8x512.Idx) : shr w 2#32 j = w j >>> 2 := rfl
theorem shr4_apply (w : IVec S8x512 32) (j : S8x512.Idx) : shr w 4#32 j = w j >>> 4 := rfl

theorem code_words (f : Fin 4) (lo hi q : Vec Ideal S1x1x32x512 .i8) (a : Fin 8) (o : Fin 512) (t : Fin 4) :
    (code f lo hi q (ix2 (⟨4 * a.val + t.val, by omega⟩ : Fin 32) o)).toInt
      = codeOf f (byt t (word lo (ix2 a o))) (byt t (word hi (ix2 a o))) (byt t (word q (ix2 a o))) := by
  match f with
  | 0 =>
    unfold code Trip.code0
    dsimp only
    rw [nib_apply, high_apply]
    exact Bytes.code0 t _ _
  | 1 =>
    unfold code Trip.code1
    dsimp only
    rw [nib_apply, high_apply, shr2_apply]
    exact Bytes.code1 t _ _
  | 2 =>
    unfold code Trip.code2
    dsimp only
    rw [nib_apply, shr4_apply, shr4_apply, high_apply]
    exact Bytes.code2 t _ _
  | 3 =>
    unfold code Trip.code3
    dsimp only
    rw [nib_apply, shr4_apply, shr4_apply, high_apply, shr2_apply]
    exact Bytes.code3 t _ _

theorem code_apply (f : Fin 4) (lo hi q : Vec Ideal S1x1x32x512 .i8) (l : Fin 32) (o : Fin 512) :
    (code f lo hi q (ix2 l o)).toInt = codeOf f (lo (ix4 0 0 l o)) (hi (ix4 0 0 l o)) (q (ix4 0 0 l o)) := by
  have h := code_words f lo hi q ⟨l.val / 4, by omega⟩ o ⟨l.val % 4, by omega⟩
  rw [byt_word, byt_word, byt_word] at h
  have e : (⟨4 * (l.val / 4) + l.val % 4, by omega⟩ : Fin 32) = l := Fin.ext (by show 4 * (l.val / 4) + l.val % 4 = l.val; omega)
  simp only [e] at h
  exact h

/-! ## A scale row spread over sixteen rows -/

theorem copies_apply (x : FVec Ideal S1x512 .bf16) (h) (j : Fin 8) (o : Fin 512) :
    concatenate S8x512 0 [⟨S1x512, x⟩, ⟨S1x512, x⟩, ⟨S1x512, x⟩, ⟨S1x512, x⟩, ⟨S1x512, x⟩, ⟨S1x512, x⟩, ⟨S1x512, x⟩, ⟨S1x512, x⟩] h (ix2 j o)
      = x (ix2 0 o) := by
  refine concatenate_replicate_apply (t := S8x512) 0 8 x h rfl (ix2 j o) (ix2 0 o) ?_ ?_
  · show 0 = j.val % 1; omega
  · intro b hb
    match b with
    | ⟨0, _⟩ => exact absurd rfl hb
    | ⟨1, _⟩ => rfl

theorem spread_apply (r : Vec Ideal S1x2x512 .bf16) (a : Fin 16) (o : Fin 512) :
    spread r (ix2 a o) = r (ix3 0 (⟨a.val % 2, Nat.mod_lt _ (by decide)⟩ : Fin 2) o) := by
  have row : ∀ p : Fin 2, shapeCast S1x512 (rowsOfParity p S1x1x512 r bitcasts_S1x2x512_w16_S1x1x512_w32) shapeCasts_S1x1x512_S1x512 (ix2 0 o)
      = r (ix3 0 p o) := fun p => by
    refine (shapeCast_apply _ _ _ (ix3 0 0 o) (by rw [Shape.rowMajor_val_three, Shape.rowMajor_val_two]; simp)).trans ?_
    rw [rowsOfParity_apply]
    refine congrArg r (funext fun c => Fin.ext ?_)
    match c with
    | ⟨0, _⟩ => rfl
    | ⟨1, _⟩ => show 2 * 0 + p.val = p.val; omega
    | ⟨2, _⟩ => rfl
  unfold spread
  rw [interleaveRows_apply]
  have hrow : S16x512.row (ix2 a o) = a.val := rfl
  rw [hrow]
  by_cases h : a.val % 2 = 0
  · rw [if_pos h]
    have hj := (copies_apply _ concatenates_S1x512_S1x512_S1x512_S1x512_S1x512_S1x512_S1x512_S1x512_S8x512_d0 ⟨a.val / 2, by omega⟩ o).trans (row 0)
    have hp : (⟨a.val % 2, Nat.mod_lt _ (by decide)⟩ : Fin 2) = 0 := Fin.ext h
    rw [hp, ← hj]
    refine congrArg _ (funext fun c => Fin.ext ?_)
    match c with
    | ⟨0, _⟩ => rfl
    | ⟨1, _⟩ => rfl
  · rw [if_neg h]
    have hj := (copies_apply _ concatenates_S1x512_S1x512_S1x512_S1x512_S1x512_S1x512_S1x512_S1x512_S8x512_d0 ⟨a.val / 2, by omega⟩ o).trans (row 1)
    have hp : (⟨a.val % 2, Nat.mod_lt _ (by decide)⟩ : Fin 2) = 1 := Fin.ext (by show a.val % 2 = 1; omega)
    rw [hp, ← hj]
    refine congrArg _ (funext fun c => Fin.ext ?_)
    match c with
    | ⟨0, _⟩ => rfl
    | ⟨1, _⟩ => rfl

/-! ## Sixteen rows of the weight -/

/-- The two halves of a group under one name. -/
def sixteen (i : Fin 2) (c : IVec S32x512 8) (r : Vec Ideal S1x2x512 .bf16) : FVec Ideal S16x512 .bf16 :=
  match i with
  | 0 => loHalf c r
  | 1 => hiHalf c r

theorem sixteen_apply (i : Fin 2) (c : IVec S32x512 8) (r : Vec Ideal S1x2x512 .bf16) (a : Fin 16) (o : Fin 512) :
    sixteen i c r (ix2 a o)
      = (((c (ix2 (⟨16 * i.val + a.val, by omega⟩ : Fin 32) o)).toInt : ℝ) : EReal) * r (ix3 0 (⟨a.val % 2, Nat.mod_lt _ (by decide)⟩ : Fin 2) o) := by
  rw [← spread_apply r a o]
  match i with
  | 0 =>
    refine congrArg (· * spread r (ix2 a o)) ?_
    refine (extractStridedSlice_apply _ (sitofp (F := Ideal) .bf16 c) _ _ (ix2 (⟨16 * 0 + a.val, by omega⟩ : Fin 32) o) ?_)
    intro b
    match b with
    | ⟨0, _⟩ => show 16 * 0 + a.val = 0 + a.val; omega
    | ⟨1, _⟩ => show o.val = 0 + o.val; omega
  | 1 =>
    refine congrArg (· * spread r (ix2 a o)) ?_
    refine (extractStridedSlice_apply _ (sitofp (F := Ideal) .bf16 c) _ _ (ix2 (⟨16 * 1 + a.val, by omega⟩ : Fin 32) o) ?_)
    intro b
    match b with
    | ⟨0, _⟩ => show 16 * 1 + a.val = 16 + a.val; omega
    | ⟨1, _⟩ => show o.val = 0 + o.val; omega

/-! ## The weight -/

/-- The half, the group and the sixteen of a row of a block. -/
def hOf (κ : Fin 256) : Fin 2 := ⟨κ.val / 128, by omega⟩
def fOf (κ : Fin 256) : Fin 4 := ⟨κ.val / 32 % 4, by omega⟩
def iOf (κ : Fin 256) : Fin 2 := ⟨κ.val / 16 % 2, by omega⟩
/-- Its row within the group. -/
def lOf (κ : Fin 256) : Fin 32 := ⟨κ.val % 32, by omega⟩

attribute [local irreducible] loHalf hiHalf Trip.code0 Trip.code1 Trip.code2 Trip.code3

theorem sixteens_apply (f : Fin 16 → FVec Ideal S16x512 .bf16) (h) (κ : Fin 256) (o : Fin 512) :
    concatenate S256x512 0 [⟨S16x512, f 0⟩, ⟨S16x512, f 1⟩, ⟨S16x512, f 2⟩, ⟨S16x512, f 3⟩, ⟨S16x512, f 4⟩, ⟨S16x512, f 5⟩, ⟨S16x512, f 6⟩, ⟨S16x512, f 7⟩, ⟨S16x512, f 8⟩, ⟨S16x512, f 9⟩, ⟨S16x512, f 10⟩, ⟨S16x512, f 11⟩, ⟨S16x512, f 12⟩, ⟨S16x512, f 13⟩, ⟨S16x512, f 14⟩, ⟨S16x512, f 15⟩] h (ix2 κ o)
      = f ⟨κ.val / 16, by omega⟩ (ix2 (⟨κ.val % 16, by omega⟩ : Fin 16) o) :=
  concatenate_ofFn_apply (t := S256x512) (s₁ := S16x512) 0 f h rfl 16 rfl (ix2 κ o) ⟨κ.val / 16, by omega⟩ rfl
    (ix2 (⟨κ.val % 16, by omega⟩ : Fin 16) o) rfl (by
      intro b hb
      match b with
      | ⟨0, _⟩ => exact absurd rfl hb
      | ⟨1, _⟩ => rfl)

/-- The block's sixteens in order. -/
def piece (lo hi q : Fin 2 → Vec Ideal S1x1x32x512 .i8) (e : Fin 2 → Fin 4 → Fin 2 → Vec Ideal S1x2x512 .bf16) (n : Fin 16) :
    FVec Ideal S16x512 .bf16 :=
  sixteen ⟨n.val % 2, by omega⟩
    (code ⟨n.val / 2 % 4, by omega⟩ (lo ⟨n.val / 8, by omega⟩) (hi ⟨n.val / 8, by omega⟩) (q ⟨n.val / 8, by omega⟩))
    (e ⟨n.val / 8, by omega⟩ ⟨n.val / 2 % 4, by omega⟩ ⟨n.val % 2, by omega⟩)

theorem weight_eq (lo hi q : Fin 2 → Vec Ideal S1x1x32x512 .i8) (e : Fin 2 → Fin 4 → Fin 2 → Vec Ideal S1x2x512 .bf16) :
    weight (lo 0) (hi 0) (q 0) (lo 1) (hi 1) (q 1) e
      = concatenate S256x512 0 [⟨S16x512, piece lo hi q e 0⟩, ⟨S16x512, piece lo hi q e 1⟩, ⟨S16x512, piece lo hi q e 2⟩, ⟨S16x512, piece lo hi q e 3⟩, ⟨S16x512, piece lo hi q e 4⟩, ⟨S16x512, piece lo hi q e 5⟩, ⟨S16x512, piece lo hi q e 6⟩, ⟨S16x512, piece lo hi q e 7⟩, ⟨S16x512, piece lo hi q e 8⟩, ⟨S16x512, piece lo hi q e 9⟩, ⟨S16x512, piece lo hi q e 10⟩, ⟨S16x512, piece lo hi q e 11⟩, ⟨S16x512, piece lo hi q e 12⟩, ⟨S16x512, piece lo hi q e 13⟩, ⟨S16x512, piece lo hi q e 14⟩, ⟨S16x512, piece lo hi q e 15⟩]
        concatenates_S16x512_S16x512_S16x512_S16x512_S16x512_S16x512_S16x512_S16x512_S16x512_S16x512_S16x512_S16x512_S16x512_S16x512_S16x512_S16x512_S256x512_d0 := rfl

theorem weight_apply (lo hi q : Fin 2 → Vec Ideal S1x1x32x512 .i8) (e : Fin 2 → Fin 4 → Fin 2 → Vec Ideal S1x2x512 .bf16) (κ : Fin 256) (o : Fin 512) :
    weight (lo 0) (hi 0) (q 0) (lo 1) (hi 1) (q 1) e (ix2 κ o)
      = ((codeOf (fOf κ) (lo (hOf κ) (ix4 0 0 (lOf κ) o)) (hi (hOf κ) (ix4 0 0 (lOf κ) o)) (q (hOf κ) (ix4 0 0 (lOf κ) o)) : ℝ) : EReal)
        * e (hOf κ) (fOf κ) (iOf κ) (ix3 0 (⟨κ.val % 2, Nat.mod_lt _ (by decide)⟩ : Fin 2) o) := by
  rw [weight_eq, sixteens_apply]
  unfold piece
  rw [sixteen_apply, code_apply]
  have h1 : (⟨κ.val / 16 / 8, by omega⟩ : Fin 2) = hOf κ := Fin.ext (by show κ.val / 16 / 8 = κ.val / 128; omega)
  have h2 : (⟨κ.val / 16 / 2 % 4, by omega⟩ : Fin 4) = fOf κ := Fin.ext (by show κ.val / 16 / 2 % 4 = κ.val / 32 % 4; omega)
  have h3 : (⟨16 * (κ.val / 16 % 2) + κ.val % 16, by omega⟩ : Fin 32) = lOf κ :=
    Fin.ext (by show 16 * (κ.val / 16 % 2) + κ.val % 16 = κ.val % 32; omega)
  have h4 : (⟨κ.val % 16 % 2, Nat.mod_lt _ (by decide)⟩ : Fin 2) = ⟨κ.val % 2, Nat.mod_lt _ (by decide)⟩ :=
    Fin.ext (by show κ.val % 16 % 2 = κ.val % 2; omega)
  simp only [h1, h2, h3, h4]
  rfl

end Cert.KernelIdeal.Codes

end
-- ==== Proof.Half.lean ====
/-
  A binary16 number given by its sixteen bits. `half` is its value by the format's definition; the kernel rebuilds it as a
  binary32 pattern (the exponent moved from one bias to the other), the reference computes it by arithmetic; both are `half`.
-/
module

public import Idealize.ShloMosaic.PureOps.Ideal
public import Idealize.ShloMosaic.PureOps.Vector
public import Idealize.ShloMosaic.Lib.IdealHost
public import Mathlib.Data.BitVec
public import Mathlib.Tactic.FinCases
public import Mathlib.Tactic.IntervalCases
public import Mathlib.Tactic.Linarith
public import Mathlib.Tactic.Ring

@[expose] public section

noncomputable section

namespace Cert.Half

open Idealize.ShloMosaic

/-- The magnitude of exponent field `ex` and fraction field `fr`. -/
def magnitude (ex fr : ℕ) : EReal :=
  if ex = 31 then (if fr = 0 then ⊤ else ⊥)
  else if ex = 0 then (((fr : ℝ) * (2 : ℝ) ^ (-24 : ℤ) : ℝ) : EReal)
  else (((1024 + fr : ℕ) * (2 : ℝ) ^ ((ex : ℤ) - 25) : ℝ) : EReal)

/-- The value of sixteen bits: the sign, five bits of exponent, ten of fraction. -/
def half (b : BitVec 16) : EReal :=
  if 32768 ≤ b.toNat then - magnitude (b.toNat / 1024 % 32) (b.toNat % 1024) else magnitude (b.toNat / 1024 % 32) (b.toNat % 1024)

/-! ## Words and their numbers -/

theorem toNat_small {n : ℕ} (h : n < 2 ^ 32) : (BitVec.ofNat 32 n).toNat = n := by
  rw [BitVec.toNat_ofNat, Nat.mod_eq_of_lt h]

theorem toInt_small {n : ℕ} (h : n < 2 ^ 31) : (BitVec.ofNat 32 n).toInt = n := by
  rw [BitVec.toInt_eq_toNat_cond, toNat_small (by omega), if_pos (by omega)]

theorem slt_small {n k : ℕ} (h : n < 2 ^ 31) (h' : k < 2 ^ 31) :
    (BitVec.ofNat 32 n).slt (BitVec.ofNat 32 k) = decide (n < k) := by
  rw [BitVec.slt, toInt_small h, toInt_small h']; simp

theorem sle_small {n k : ℕ} (h : n < 2 ^ 31) (h' : k < 2 ^ 31) :
    (BitVec.ofNat 32 n).sle (BitVec.ofNat 32 k) = decide (n ≤ k) := by
  rw [BitVec.sle, toInt_small h, toInt_small h']; simp

theorem mask15 (b : BitVec 16) : b.signExtend 32 &&& 32767#32 = BitVec.ofNat 32 (b.toNat % 32768) := by
  have e : b.toNat % 32768 = (b.setWidth 15).toNat := by simp
  rw [e]
  have : BitVec.ofNat 32 (b.setWidth 15).toNat = (b.setWidth 15).setWidth 32 := by
    apply BitVec.eq_of_toNat_eq; simp
  rw [this]
  apply BitVec.eq_of_getLsbD_eq; intro i hi
  rw [BitVec.getLsbD_and, BitVec.getLsbD_signExtend, BitVec.getLsbD_setWidth, BitVec.getLsbD_setWidth]
  interval_cases i <;> simp

theorem mask16 (b : BitVec 16) : b.signExtend 32 &&& 65535#32 = BitVec.ofNat 32 b.toNat := by
  have : BitVec.ofNat 32 b.toNat = b.setWidth 32 := by
    apply BitVec.eq_of_toNat_eq; simp
  rw [this]
  apply BitVec.eq_of_getLsbD_eq; intro i hi
  rw [BitVec.getLsbD_and, BitVec.getLsbD_signExtend, BitVec.getLsbD_setWidth]
  interval_cases i <;> simp

theorem neg16 (b : BitVec 16) : (b.signExtend 32).slt 0#32 = decide (32768 ≤ b.toNat) := by
  have h := b.isLt
  rw [BitVec.slt, BitVec.toInt_signExtend_of_le (by decide), BitVec.toInt_eq_toNat_cond, decide_eq_decide]
  simp only [BitVec.toInt_zero]
  split <;> omega

/-! ## The kernel's way -/

/-- Sixteen bits' value as the kernel finds it: the magnitude's bits shifted to binary32's place, its exponent moved by the
    difference of the biases (by more where it is the largest), read as a binary32 pattern; small exponents apart. -/
def byPattern (b : BitVec 16) : EReal :=
  let mag : BitVec 32 := IntOp.andi (b.signExtend 32) 32767#32
  let bias : BitVec 32 := Scalar.select (IntOp.cmpi .sge mag 31744#32) 1879048192#32 939524096#32
  let val : EReal := Scalar.select (IntOp.cmpi .slt mag 1024#32)
    (((mag.toInt : ℝ) : EReal) * Ideal.ofBits .f32 0x33800000#32)
    (Ideal.ofBits .f32 (IntOp.addi (IntOp.shli .vector mag 13#32) bias))
  Scalar.select (IntOp.cmpi .slt (b.signExtend 32) 0#32) (Ideal.ofBits .f32 0x00000000#32 - val) val

theorem select_ofBool {α : Type} (p : Prop) [Decidable p] (a b : α) : Scalar.select (BitVec.ofBool (decide p)) a b = if p then a else b := by
  by_cases h : p <;> simp [h, Scalar.select]

theorem ofBits_2m24 : Ideal.ofBits .f32 0x33800000#32 = (((2 : ℝ) ^ (-24 : ℤ) : ℝ) : EReal) := by
  simp [Ideal.ofBits, Ideal.ieee, -EReal.coe_mul, -EReal.coe_neg]; norm_num

theorem ofBits_two : Ideal.ofBits .f32 0x40000000#32 = ((2 : ℝ) : EReal) := by
  simp [Ideal.ofBits, Ideal.ieee, -EReal.coe_mul, -EReal.coe_neg]; norm_num

/-- A binary32 pattern of sign zero by its two fields. -/
theorem ofBits_fields (ex fr : ℕ) (hex : ex < 256) (hfr : fr < 2 ^ 23) :
    Ideal.ofBits .f32 (BitVec.ofNat 32 (ex * 2 ^ 23 + fr))
      = if ex = 255 then (if fr = 0 then ⊤ else ⊥)
        else if ex = 0 then (((fr : ℝ) * (2 : ℝ) ^ (1 - 127 - 23 : ℤ) : ℝ) : EReal)
        else (((2 ^ 23 + fr : ℕ) * (2 : ℝ) ^ ((ex : ℤ) - 127 - 23) : ℝ) : EReal) := by
  have hlt : ex * 2 ^ 23 + fr < 2 ^ 31 := by omega
  have h1 : (BitVec.ofNat 32 (ex * 2 ^ 23 + fr)).extractLsb' 31 1 = 0#1 := by
    apply BitVec.eq_of_toNat_eq
    rw [BitVec.extractLsb'_toNat, toNat_small (by omega), Nat.shiftRight_eq_div_pow, Nat.div_eq_of_lt hlt]; rfl
  have h2 : ((BitVec.ofNat 32 (ex * 2 ^ 23 + fr)).extractLsb' 23 8).toNat = ex := by
    rw [BitVec.extractLsb'_toNat, toNat_small (by omega), Nat.shiftRight_eq_div_pow]; omega
  have h3 : ((BitVec.ofNat 32 (ex * 2 ^ 23 + fr)).extractLsb' 0 23).toNat = fr := by
    rw [BitVec.extractLsb'_toNat, toNat_small (by omega), Nat.shiftRight_eq_div_pow]; omega
  show Ideal.ieee 8 23 _ = _
  unfold Ideal.ieee
  simp only [show 8 + 23 = 31 from rfl, h1, h2, h3]
  simp only [show ((0#1 : BitVec 1) == 1#1) = false from rfl, Bool.false_eq_true, if_false, one_mul]
  norm_num

theorem byPattern_eq (b : BitVec 16) : byPattern b = half b := by
  have hb := b.isLt
  unfold byPattern half
  simp only [IntOp.andi, IntOp.cmpi, IntOp.addi, mask15, neg16]
  set n := b.toNat % 32768 with hn
  have hlt : n < 32768 := Nat.mod_lt _ (by decide)
  have hm : ∀ k, k < 2 ^ 31 → (BitVec.ofNat 32 k).sle (BitVec.ofNat 32 n) = decide (k ≤ n) := fun k hk => sle_small hk (by omega)
  have hs : ∀ k, k < 2 ^ 31 → (BitVec.ofNat 32 n).slt (BitVec.ofNat 32 k) = decide (n < k) := fun k hk => slt_small (by omega) hk
  rw [show (31744#32 : BitVec 32) = BitVec.ofNat 32 31744 from rfl, hm _ (by decide), show (1024#32 : BitVec 32) = BitVec.ofNat 32 1024 from rfl,
    hs _ (by decide)]
  simp only [select_ofBool, Ideal.ofBits_zero_f32, ofBits_2m24, zero_sub]
  have key : (if n < 1024 then (((BitVec.ofNat 32 n).toInt : ℝ) : EReal) * (((2 : ℝ) ^ (-24 : ℤ) : ℝ) : EReal)
      else Ideal.ofBits .f32 (IntOp.shli .vector (BitVec.ofNat 32 n) 13#32 + if 31744 ≤ n then 1879048192#32 else 939524096#32))
      = magnitude (b.toNat / 1024 % 32) (b.toNat % 1024) := by
    have he : b.toNat / 1024 % 32 = n / 1024 := by omega
    have hf : b.toNat % 1024 = n % 1024 := by omega
    rw [he, hf]
    by_cases h : n < 1024
    · rw [if_pos h, toInt_small (by omega), magnitude, if_neg (by omega), if_pos (by omega), Nat.mod_eq_of_lt h, ← EReal.coe_mul]
      simp
    · rw [if_neg h]
      have hw : IntOp.shli .vector (BitVec.ofNat 32 n) 13#32 + (if 31744 ≤ n then 1879048192#32 else 939524096#32)
          = BitVec.ofNat 32 ((n / 1024 + (if 31744 ≤ n then 224 else 112)) * 2 ^ 23 + (n % 1024) * 8192) := by
        apply BitVec.eq_of_toNat_eq
        rw [show IntOp.shli .vector (BitVec.ofNat 32 n) 13#32 = BitVec.ofNat 32 n <<< (13#32) from if_pos (by decide)]
        rw [BitVec.toNat_add, BitVec.shiftLeft_eq', BitVec.toNat_shiftLeft, toNat_small (by omega), show (13#32 : BitVec 32).toNat = 13 from rfl, Nat.shiftLeft_eq]
        split
        · rw [toNat_small (n := 1879048192) (by decide), toNat_small (by omega)]; omega
        · rw [toNat_small (n := 939524096) (by decide), toNat_small (by omega)]; omega
      rw [hw, ofBits_fields _ _ (by split <;> omega) (by omega), magnitude]
      by_cases h31 : 31744 ≤ n
      · have h255 : n / 1024 + 224 = 255 := by omega
        have h31' : n / 1024 = 31 := by omega
        rw [if_pos h31, if_pos h255, if_pos h31']
        by_cases hz : n % 1024 = 0
        · rw [if_pos hz, if_pos (by omega)]
        · rw [if_neg hz, if_neg (by omega)]
      · rw [if_neg h31, if_neg (by omega), if_neg (by omega), if_neg (by omega), if_neg (by omega)]
        congr 1
        have e1 : ((2 ^ 23 + n % 1024 * 8192 : ℕ) : ℝ) = ((1024 + n % 1024 : ℕ) : ℝ) * (2 : ℝ) ^ (13 : ℤ) := by
          push_cast; norm_num; ring
        rw [e1, mul_assoc, ← zpow_add₀ (by norm_num)]
        congr 2
        push_cast; ring
  rw [key]

/-! ## The reference's way -/

/-- Sixteen bits' value by arithmetic on the fields. -/
def byFields (b : BitVec 16) : EReal :=
  let word : BitVec 32 := IntOp.andi (b.signExtend 32) 65535#32
  let ex : BitVec 32 := IntOp.andi (IntOp.shrsi .host word 10#32) 31#32
  let fr : BitVec 32 := IntOp.andi word 1023#32
  let sub : EReal := ((fr.toInt : ℝ) : EReal) * Ideal.ofBits .f32 0x33800000#32
  let normal : EReal := (((IntOp.addi 1024#32 fr).toInt : ℝ) : EReal)
    * Ideal.pow (Ideal.ofBits .f32 0x40000000#32) (((IntOp.subi ex 25#32).toInt : ℝ) : EReal)
  let special : EReal := Scalar.select (IntOp.cmpi .eq fr 0#32) (Ideal.ofBits .f32 0x7F800000#32) (Ideal.ofBits .f32 0x7FC00000#32)
  let mag : EReal := Scalar.select (IntOp.cmpi .eq ex 0#32) sub (Scalar.select (IntOp.cmpi .eq ex 31#32) special normal)
  Scalar.select (IntOp.cmpi .sge word 32768#32) (-mag) mag

theorem sub25 (e : Fin 32) : (BitVec.ofNat 32 e.val - 25#32).toInt = (e.val : ℤ) - 25 := by revert e; decide

theorem beq_small {n k : ℕ} (h : n < 2 ^ 32) (h' : k < 2 ^ 32) : (BitVec.ofNat 32 n == BitVec.ofNat 32 k) = decide (n = k) := by
  rw [Bool.eq_iff_iff, beq_iff_eq, decide_eq_true_iff]
  exact ⟨fun e => by rw [← toNat_small h, ← toNat_small h', e], fun e => by rw [e]⟩

theorem and_low (n k : ℕ) (h : n < 2 ^ 32) (hk : k < 32) : BitVec.ofNat 32 n &&& BitVec.ofNat 32 (2 ^ k - 1) = BitVec.ofNat 32 (n % 2 ^ k) := by
  have h2 : 2 ^ k ≤ 2 ^ 31 := Nat.pow_le_pow_right (by decide) (by omega)
  have h3 : n % 2 ^ k ≤ n := Nat.mod_le _ _
  apply BitVec.eq_of_toNat_eq
  rw [BitVec.toNat_and, toNat_small h, toNat_small (by omega), toNat_small (by omega), Nat.and_two_pow_sub_one_eq_mod]

theorem byFields_eq (b : BitVec 16) : byFields b = half b := by
  have hb := b.isLt
  unfold byFields half
  simp only [IntOp.andi, IntOp.cmpi, IntOp.addi, IntOp.subi, mask16]
  set n := b.toNat with hn
  have hshr : IntOp.shrsi .host (BitVec.ofNat 32 n) 10#32 = BitVec.ofNat 32 (n / 1024) := by
    rw [show IntOp.shrsi .host (BitVec.ofNat 32 n) 10#32 = (BitVec.ofNat 32 n).sshiftRight 10 from if_pos (by decide)]
    apply BitVec.eq_of_toNat_eq
    rw [BitVec.sshiftRight_eq_of_msb_false (BitVec.msb_eq_false_iff_two_mul_lt.mpr (by rw [toNat_small (by omega)]; omega)),
      BitVec.toNat_ushiftRight, toNat_small (by omega), toNat_small (by omega), Nat.shiftRight_eq_div_pow]
  rw [hshr, show (31#32 : BitVec 32) = BitVec.ofNat 32 (2 ^ 5 - 1) from rfl, and_low _ 5 (by omega) (by decide),
    show (1023#32 : BitVec 32) = BitVec.ofNat 32 (2 ^ 10 - 1) from rfl, and_low _ 10 (by omega) (by decide)]
  have hadd : (1024#32 : BitVec 32) + BitVec.ofNat 32 (n % 2 ^ 10) = BitVec.ofNat 32 (1024 + n % 2 ^ 10) := by
    rw [BitVec.ofNat_add]
  rw [hadd]
  simp only [show (2 : ℕ) ^ 10 = 1024 from rfl, show (2 : ℕ) ^ 5 = 32 from rfl, Nat.reduceSub]
  have he : n / 1024 % 32 < 32 := Nat.mod_lt _ (by decide)
  have hf : n % 1024 < 1024 := Nat.mod_lt _ (by decide)
  rw [sub25 ⟨_, he⟩, beq_small (by omega) (by decide), beq_small (by omega) (by decide), beq_small (by omega) (by decide),
    sle_small (by decide) (by omega), toInt_small (by omega), toInt_small (by omega)]
  simp only [select_ofBool, ofBits_2m24, ofBits_two]
  have hinf : Ideal.ofBits .f32 0x7F800000#32 = ⊤ := by simp [Ideal.ofBits, Ideal.ieee]
  have hnan : Ideal.ofBits .f32 0x7FC00000#32 = ⊥ := by simp [Ideal.ofBits, Ideal.ieee]
  rw [hinf, hnan]
  have hpow : Ideal.pow ((2 : ℝ) : EReal) (((((n / 1024 % 32 : ℕ) : ℤ) - 25 : ℤ) : ℝ) : EReal) = (((2 : ℝ) ^ (((n / 1024 % 32 : ℕ) : ℤ) - 25) : ℝ) : EReal) := by
    show ((Real.rpow 2 _ : ℝ) : EReal) = _
    rw [show Real.rpow 2 = fun y => (2 : ℝ) ^ y from rfl]
    dsimp only
    rw [Real.rpow_intCast]
  have key : (if n / 1024 % 32 = 0 then ((((n % 1024 : ℕ) : ℤ) : ℝ) : EReal) * (((2 : ℝ) ^ (-24 : ℤ) : ℝ) : EReal)
      else if n / 1024 % 32 = 31 then (if n % 1024 = 0 then ⊤ else ⊥)
      else ((((1024 + n % 1024 : ℕ) : ℤ) : ℝ) : EReal) * Ideal.pow ((2 : ℝ) : EReal) (((((n / 1024 % 32 : ℕ) : ℤ) - 25 : ℤ) : ℝ) : EReal))
      = magnitude (n / 1024 % 32) (n % 1024) := by
    rw [hpow, magnitude]
    by_cases h0 : n / 1024 % 32 = 0
    · rw [if_pos h0, if_neg (by omega), if_pos h0, ← EReal.coe_mul, Int.cast_natCast]
    · rw [if_neg h0]
      by_cases h31 : n / 1024 % 32 = 31
      · rw [if_pos h31, if_pos h31]
      · rw [if_neg h31, if_neg h31, if_neg h0, ← EReal.coe_mul, Int.cast_natCast]
  rw [key]

end Cert.Half

end
-- ==== Proof.KernelValue.lean ====
/-
  What one grid point of the idealized kernel computes, element by element: the sum over the 44 blocks and the 256 rows of each of
  the activation's element times the weight's, the weight's element being code × (scale × block scale).
-/
module

public import proofs.«01_k».proof.Proof.Codes
public import proofs.«01_k».proof.Proof.Half
public import Idealize.ShloMosaic.Lib.MatmulPlain
public import Idealize.ShloMosaic.Lib.Pipeline.ValueKit.Tiles

@[expose] public section

noncomputable section

namespace Cert.KernelIdeal.Value

open Cert.KernelIdeal Cert.KernelIdeal.Gen Cert.KernelIdeal.Trip Cert.KernelIdeal.Codes Cert.Bytes
open Idealize.ShloMosaic hiding ix2 ix3 ix4
open Idealize.ShloMosaic.ValueIdx (ix2 ix3 ix4)

theorem trips_eq : k0_t1_loop.trips = 44 := by decide +kernel

/-- A trip is a block of the weight. -/
def blk (k : Fin k0_t1_loop.trips) : Fin 44 := ⟨k.val, trips_eq ▸ k.isLt⟩

/-! ## Loads -/

/-- A load at an offset known in another form. -/
theorem ld_at {S : Shape} {e : EltTy} (X : S.Idx → Elt Ideal e) (off size : Fin S.rank → Nat) (inb) (off' : Fin S.rank → Nat) (h : off = off')
    (x : (Rect.unit (s := S) off size inb).shape.Idx) (i : S.Idx) (hi : ∀ a, (i a : Nat) = off' a + x a) :
    View.ld (Val := Elt Ideal) (e' := e) X (Rect.unit (s := S) off size inb) x = X i := by
  subst h; exact View.ld_unit_apply_of X off size inb x i hi

/-- A row of thirty-two rows of one half of one block. -/
theorem ld_half {n : ℕ} (X : Vec Ideal ⟨4, ![44, 2, n, 512]⟩ .i8) (off : Fin 4 → Nat) (inb) (k : Fin 44) (h : Fin 2) (s : ℕ)
    (hoff : off = ![k.val, h.val, s, 0]) (l : Fin 32) (o : Fin 512) (r : Fin n) (hr : r.val = s + l.val) :
    View.ld (Val := Elt Ideal) (e' := .i8) X (Rect.unit (s := ⟨4, ![44, 2, n, 512]⟩) off S1x1x32x512.size inb) (ix4 0 0 l o : S1x1x32x512.Idx)
      = X (ix4 k h r o) :=
  ld_at X off _ inb _ hoff _ _ (by
    intro a
    match a with
    | ⟨0, _⟩ => rfl
    | ⟨1, _⟩ => rfl
    | ⟨2, _⟩ => exact hr
    | ⟨3, _⟩ => exact (Nat.zero_add _).symm)

/-! ## The scale rows -/

/-- The scale row of half `h`, group `f`, sixteen `i`. -/
def rOf (h : Fin 2) (f : Fin 4) (i : Fin 2) : Fin 16 := ⟨8 * h.val + 2 * f.val + i.val, by omega⟩

/-- The scale of row `r` of block `nb`: its integer times the block's scale. -/
def eff (sc : Vec Ideal S44x16x512 .i8) (d : Vec Ideal S44x512 .f32) (nb : Fin 44) (r : Fin 16) (o : Fin 512) : EReal :=
  (((sc (ix3 nb r o)).toInt : ℝ) : EReal) * d (ix2 nb o)

theorem store_apply (s : Vec Ideal S1x16x512 .i8) (t : Vec Ideal S1x512 .f32) (r : Fin 16) (p : Fin 2) (o : Fin 512) :
    k0_pay8 s t (ix3 r p o) = (((s (ix3 0 r o)).toInt : ℝ) : EReal) * t (ix2 0 o) := by
  have one : ∀ (v : FVec Ideal S16x512 .bf16), shapeCast S16x1x512 v shapeCasts_S16x512_S16x1x512 (ix3 r 0 o) = v (ix2 r o) := fun v =>
    shapeCast_apply _ _ _ _ (by rw [Shape.rowMajor_val_three, Shape.rowMajor_val_two]; simp)
  have e : mulf (sitofp (F := Ideal) .f32 (shapeCast S16x512 s shapeCasts_S1x16x512_S16x512)) (broadcastTo S16x512 t broadcasts_S1x512_S16x512) (ix2 r o)
      = (((s (ix3 0 r o)).toInt : ℝ) : EReal) * t (ix2 0 o) := by
    have h1 : shapeCast S16x512 s shapeCasts_S1x16x512_S16x512 (ix2 r o) = s (ix3 0 r o) :=
      shapeCast_apply _ _ _ _ (by rw [Shape.rowMajor_val_three, Shape.rowMajor_val_two]; simp)
    have h2 : broadcastTo S16x512 t broadcasts_S1x512_S16x512 (ix2 r o) = t (ix2 0 o) :=
      broadcastTo_apply _ _ _ _ (by
        intro a
        match a with
        | ⟨0, _⟩ => rfl
        | ⟨1, _⟩ => rfl)
    rw [← h1, ← h2]; rfl
  unfold k0_pay8
  rw [interleaveRows_apply]
  have hi : ∀ (j : S16x1x512.Idx), (∀ b, (j b).val = ((ix3 r 0 o : S16x1x512.Idx) b).val) → j = ix3 r 0 o := fun j hj =>
    funext fun b => Fin.ext (hj b)
  have hv : ∀ (v : FVec Ideal S16x512 .bf16) (j : S16x1x512.Idx), (∀ b, (j b).val = ((ix3 r 0 o : S16x1x512.Idx) b).val) →
      shapeCast S16x1x512 v shapeCasts_S16x512_S16x1x512 j = v (ix2 r o) := fun v j hj => by rw [hi j hj, one]
  have hp := p.isLt
  split
  · refine (hv _ _ ?_).trans e
    intro b
    match b with
    | ⟨0, _⟩ => rfl
    | ⟨1, _⟩ => show p.val / 2 = 0; omega
    | ⟨2, _⟩ => rfl
  · refine (hv _ _ ?_).trans e
    intro b
    match b with
    | ⟨0, _⟩ => rfl
    | ⟨1, _⟩ => show p.val / 2 = 0; omega
    | ⟨2, _⟩ => rfl

theorem eStore_apply (sc : Vec Ideal S44x16x512 .i8) (d : Vec Ideal S44x512 .f32) (k : Fin k0_t1_loop.trips) (r : Fin 16) (p : Fin 2) (o : Fin 512) :
    eStore sc d k (ix3 r p o) = eff sc d (blk k) r o := by
  refine (store_apply _ _ r p o).trans ?_
  have h1 := ld_at (e := .i8) sc (k0_off1 k) S1x16x512.size (k0_off1_inb k) _ (k0_off1_eq k) (ix3 0 r o) (ix3 (blk k) r o) (by
    intro a
    match a with
    | ⟨0, _⟩ => rfl
    | ⟨1, _⟩ => show r.val = 0 + r.val; omega
    | ⟨2, _⟩ => show o.val = 0 + o.val; omega)
  have h2 := ld_at (e := .f32) d (k0_off2 k) S1x512.size (k0_off2_inb k) _ (k0_off2_eq k) (ix2 0 o) (ix2 (blk k) o) (by
    intro a
    match a with
    | ⟨0, _⟩ => rfl
    | ⟨1, _⟩ => show o.val = 0 + o.val; omega)
  exact (congrArg₂ (fun (x : BitVec 8) (y : EReal) => ((x.toInt : ℝ) : EReal) * y) h1 h2)

theorem eRow_apply (sc : Vec Ideal S44x16x512 .i8) (d : Vec Ideal S44x512 .f32) (k : Fin k0_t1_loop.trips) (h : Fin 2) (f : Fin 4) (i : Fin 2)
    (p : Fin 2) (o : Fin 512) : eRow sc d k h f i (ix3 0 p o) = eff sc d (blk k) (rOf h f i) o := by
  have hidx : (rowRect k h f i).idx (ix3 0 p o) = (eRect k).emb (ix3 (rOf h f i) p o) := by
    funext a; apply Fin.ext
    refine (Rect.idx_unit_val _ _ _ _ a).trans (Eq.trans ?_ (Rect.idx_unit_val _ _ _ _ a).symm)
    refine Eq.trans (congrArg (fun off : Fin 3 → ℕ => off a + ((ix3 0 p o : S1x2x512.Idx) a).val) (k0_off7_eq k h f i))
      (Eq.trans ?_ (congrArg (fun off : Fin 3 → ℕ => off a + ((ix3 (rOf h f i) p o : S16x2x512.Idx) a).val) (k0_off3_eq k)).symm)
    match a with
    | ⟨0, _⟩ =>
      show 16 * k.val + 8 * h.val + 2 * f.val + i.val + 0 = 16 * k.val + (8 * h.val + 2 * f.val + i.val)
      omega
    | ⟨1, _⟩ => rfl
    | ⟨2, _⟩ => rfl
  unfold eRow
  rw [hidx, View.canon_cons_emb]
  exact eStore_apply sc d k _ p o

/-! ## The weight of a block -/

/-- The weight's element at row `κ` of block `nb`. -/
def wElem (ql : Vec Ideal S44x2x64x512 .i8) (qh : Vec Ideal S44x2x32x512 .i8) (sc : Vec Ideal S44x16x512 .i8) (d : Vec Ideal S44x512 .f32)
    (nb : Fin 44) (κ : Fin 256) (o : Fin 512) : EReal :=
  ((codeOf (fOf κ) (ql (ix4 nb (hOf κ) (⟨(lOf κ).val, by omega⟩ : Fin 64) o)) (ql (ix4 nb (hOf κ) (⟨32 + (lOf κ).val, by omega⟩ : Fin 64) o))
      (qh (ix4 nb (hOf κ) (lOf κ) o)) : ℝ) : EReal)
    * eff sc d nb (rOf (hOf κ) (fOf κ) (iOf κ)) o

theorem tripWeight_apply (ql : Vec Ideal S44x2x64x512 .i8) (qh : Vec Ideal S44x2x32x512 .i8) (sc : Vec Ideal S44x16x512 .i8) (d : Vec Ideal S44x512 .f32)
    (k : Fin k0_t1_loop.trips) (κ : Fin 256) (o : Fin 512) : tripWeight ql qh sc d k (ix2 κ o) = wElem ql qh sc d (blk k) κ o := by
  set lo : Fin 2 → Vec Ideal S1x1x32x512 .i8 := ![View.ld (Val := Elt Ideal) (e' := .i8) ql (Rect.unit (s := S44x2x64x512) (k0_off4 k) S1x1x32x512.size (k0_off4_inb k)),
    View.ld (Val := Elt Ideal) (e' := .i8) ql (Rect.unit (s := S44x2x64x512) (k0_off8 k) S1x1x32x512.size (k0_off8_inb k))] with hlo
  set hi : Fin 2 → Vec Ideal S1x1x32x512 .i8 := ![View.ld (Val := Elt Ideal) (e' := .i8) ql (Rect.unit (s := S44x2x64x512) (k0_off5 k) S1x1x32x512.size (k0_off5_inb k)),
    View.ld (Val := Elt Ideal) (e' := .i8) ql (Rect.unit (s := S44x2x64x512) (k0_off9 k) S1x1x32x512.size (k0_off9_inb k))] with hhi
  set q : Fin 2 → Vec Ideal S1x1x32x512 .i8 := ![View.ld (Val := Elt Ideal) (e' := .i8) qh (Rect.unit (s := S44x2x32x512) (k0_off6 k) S1x1x32x512.size (k0_off6_inb k)),
    View.ld (Val := Elt Ideal) (e' := .i8) qh (Rect.unit (s := S44x2x32x512) (k0_off10 k) S1x1x32x512.size (k0_off10_inb k))] with hq
  have e : tripWeight ql qh sc d k = weight (lo 0) (hi 0) (q 0) (lo 1) (hi 1) (q 1) (eRow sc d k) := rfl
  have elo : ∀ (h : Fin 2) (l : Fin 32), lo h (ix4 0 0 l o) = ql (ix4 (blk k) h (⟨l.val, by omega⟩ : Fin 64) o) := fun h l =>
    match h with
    | 0 => ld_half ql _ (k0_off4_inb k) (blk k) 0 0 (k0_off4_eq k) l o _ (Nat.zero_add _).symm
    | 1 => ld_half ql _ (k0_off8_inb k) (blk k) 1 0 (k0_off8_eq k) l o _ (Nat.zero_add _).symm
  have ehi : ∀ (h : Fin 2) (l : Fin 32), hi h (ix4 0 0 l o) = ql (ix4 (blk k) h (⟨32 + l.val, by omega⟩ : Fin 64) o) := fun h l =>
    match h with
    | 0 => ld_half ql _ (k0_off5_inb k) (blk k) 0 32 (k0_off5_eq k) l o _ rfl
    | 1 => ld_half ql _ (k0_off9_inb k) (blk k) 1 32 (k0_off9_eq k) l o _ rfl
  have eq : ∀ (h : Fin 2) (l : Fin 32), q h (ix4 0 0 l o) = qh (ix4 (blk k) h l o) := fun h l =>
    match h with
    | 0 => ld_half qh _ (k0_off6_inb k) (blk k) 0 0 (k0_off6_eq k) l o _ (Nat.zero_add _).symm
    | 1 => ld_half qh _ (k0_off10_inb k) (blk k) 1 0 (k0_off10_eq k) l o _ (Nat.zero_add _).symm
  rw [e, weight_apply, elo, ehi, eq, eRow_apply]
  rfl

/-! ## One trip, all trips -/

/-- One block's part of an element of the result. -/
def blockSum (x : Vec Ideal S192x11264 .bf16) (ql : Vec Ideal S44x2x64x512 .i8) (qh : Vec Ideal S44x2x32x512 .i8) (sc : Vec Ideal S44x16x512 .i8)
    (d : Vec Ideal S44x512 .f32) (b : Fin 192) (o : Fin 512) (nb : Fin 44) : EReal :=
  ∑ κ : Fin 256, x (ix2 b (⟨256 * nb.val + κ.val, by omega⟩ : Fin 11264)) * wElem ql qh sc d nb κ o

theorem trip_apply (x : Vec Ideal S192x11264 .bf16) (ql : Vec Ideal S44x2x64x512 .i8) (qh : Vec Ideal S44x2x32x512 .i8) (sc : Vec Ideal S44x16x512 .i8)
    (d : Vec Ideal S44x512 .f32) (k : Fin k0_t1_loop.trips) (acc : FVec Ideal S192x512 .f32) (b : Fin 192) (o : Fin 512) :
    trip x ql qh sc d k acc (ix2 b o) = acc (ix2 b o) + blockSum x ql qh sc d b o (blk k) := by
  unfold trip k0_pay6
  dsimp only
  refine congrArg (acc (ix2 b o) + ·) ?_
  refine (Ideal.matmul_plain_apply (M := 192) (K := 256) (N := 512) none _ _ _ b o).trans ?_
  refine Eq.trans (congrArg₂ (· + ·) Ideal.ofBits_zero_f32 (Finset.sum_congr rfl fun κ _ => ?_)) (zero_add _)
  refine congrArg₂ (· * ·) ?_ (tripWeight_apply ql qh sc d k κ o)
  rw [shapeCast_self]
  refine ld_at (e := .bf16) x _ _ (k0_off11_inb k) _ (k0_off11_eq k) (ix2 b κ) _ ?_
  intro a
  match a with
  | ⟨0, _⟩ => show b.val = 0 + b.val; omega
  | ⟨1, _⟩ => rfl

theorem accAt_apply (x : Vec Ideal S192x11264 .bf16) (ql : Vec Ideal S44x2x64x512 .i8) (qh : Vec Ideal S44x2x32x512 .i8) (sc : Vec Ideal S44x16x512 .i8)
    (d : Vec Ideal S44x512 .f32) (b : Fin 192) (o : Fin 512) : ∀ n : ℕ,
    accAt x ql qh sc d n (ix2 b o) = ∑ m ∈ Finset.range n, if h : m < 44 then blockSum x ql qh sc d b o ⟨m, h⟩ else 0
  | 0 => Ideal.ofBits_zero_f32
  | n + 1 => by
    rw [Finset.sum_range_succ, ← accAt_apply x ql qh sc d b o n]
    have hs : accAt x ql qh sc d (n + 1)
        = if h : n < k0_t1_loop.trips then trip x ql qh sc d ⟨n, h⟩ (accAt x ql qh sc d n) else accAt x ql qh sc d n := rfl
    rw [hs]
    by_cases h : n < k0_t1_loop.trips
    · rw [dif_pos h, trip_apply, dif_pos (trips_eq ▸ h)]; rfl
    · rw [dif_neg h, dif_neg (fun h' => h (trips_eq.symm ▸ h')), add_zero]

/-- The block scales from their sixteen bits. -/
theorem pay1_apply (d : Vec Ideal S44x512 .i16) (j : S44x512.Idx) : k0_pay1 (F := Ideal) d j = Half.half (d j) := by
  rw [← Half.byPattern_eq]
  unfold k0_pay1
  simp only [shapeCast_self]
  rfl

/-- What one grid point leaves in its output block. -/
theorem tile_apply (x : Vec Ideal S192x11264 .bf16) (ql : Vec Ideal S44x2x64x512 .i8) (qh : Vec Ideal S44x2x32x512 .i8) (sc : Vec Ideal S44x16x512 .i8)
    (d : Vec Ideal S44x512 .i16) (b : Fin 192) (o : Fin 512) :
    tile x ql qh sc d (ix2 b o) = ∑ nb : Fin 44, blockSum x ql qh sc (fun j => Half.half (d j)) b o nb := by
  have hd : k0_pay1 (F := Ideal) d = fun j => Half.half (d j) := funext fun j => pay1_apply d j
  show accAt x ql qh sc (k0_pay1 d) k0_t1_loop.trips (ix2 b o) = _
  rw [accAt_apply, hd, trips_eq, Finset.sum_range]
  exact Finset.sum_congr rfl fun nb _ => dif_pos nb.isLt

end Cert.KernelIdeal.Value

end
-- ==== Proof.RefValue.lean ====
/-
  What the idealized reference computes, element by element: the sum over the four groups, and for each over the halves, the
  thirty-two rows and the 44 blocks, of the activation's element times the weight's.
-/
module

public import proofs.«01_k».proof.Proof.Gen.ReferenceIdeal.Run
public import proofs.«01_k».proof.Proof.Bytes
public import proofs.«01_k».proof.Proof.Half
public import Idealize.ShloMosaic.PureOps.Ideal
public import Idealize.ShloMosaic.Lib.ValueIdxCore
public import Idealize.ShloMosaic.Lib.ValueIdxRank6
public import Idealize.ShloMosaic.Lib.Pipeline.Value
public import Mathlib.Algebra.BigOperators.Fin
public import Mathlib.Data.Fintype.BigOperators

@[expose] public section

noncomputable section

namespace Cert.ReferenceIdeal.Plain

open Cert.ReferenceIdeal Cert.ReferenceIdeal.Gen Cert.Bytes
open Idealize.ShloMosaic
open Idealize.ShloMosaic.TcCoe
open Idealize.ShloMosaic.ValueIdx (ix2 ix3 ix4 ix5 ix6)

/-! ## The reference's operations by name -/

/-- The block scales from their sixteen bits. -/
def halfArr (d : IVec S44x8192 16) : FVec Ideal S44x8192 .f32 :=
  let all : BitVec 32 → IVec S44x8192 32 := fun w => broadcastInDim S44x8192 ![] bcast_S_S44x8192 (constantI S_ 32 w)
  let allf : BitVec 32 → FVec Ideal S44x8192 .f32 := fun w => broadcastInDim S44x8192 ![] bcast_S_S44x8192 (constant S_ .f32 w)
  let word : IVec S44x8192 32 := andi (extsi 32 d natLt_16_32) (all 65535#32)
  let ex : IVec S44x8192 32 := andi (Host.shrsi word (all 10#32)) (all 31#32)
  let fr : IVec S44x8192 32 := andi word (all 1023#32)
  let mag : FVec Ideal S44x8192 .f32 := select (cmpi .eq ex (all 0#32)) (mulf (sitofp .f32 fr) (allf 0x33800000#32))
    (select (cmpi .eq ex (all 31#32)) (id (select (cmpi .eq fr (all 0#32)) (allf 0x7F800000#32) (allf 0x7FC00000#32)))
      (mulf (sitofp .f32 (addi (all 1024#32) fr)) (Host.powf (allf 0x40000000#32) (sitofp .f32 (subi ex (all 25#32))))))
  select (cmpi .sge word (all 32768#32)) (Host.negf mag) mag

/-- The scales: block scale times integer scale. -/
def effArr (d : IVec S44x8192 16) (sc : IVec S44x16x8192 8) : FVec Ideal S44x2x4x2x8192 .bf16 :=
  shapeCast _ (truncf .bf16 (mulf (broadcastInDim S44x16x8192 ![0, 1, 2] bcast_S44x1x8192_S44x16x8192_0_1_2
    (broadcastInDim S44x1x8192 ![0, 2] bcast_S44x8192_S44x1x8192_0_2 (halfArr d))) (sitofp .f32 (extsi 32 sc natLt_8_32))) bitsLt_bf16_f32)
    shapeCasts_S44x16x8192_S44x2x4x2x8192

/-- One integer at every place. -/
def allq (w : BitVec 32) : IVec S44x2x32x8192 32 := broadcastInDim S44x2x32x8192 ![] bcast_S_S44x2x32x8192 (constantI S_ 32 w)

/-- The low parts' bytes of the first and the last thirty-two rows, and the high parts' bytes. -/
def loArr (ql : IVec S44x2x64x8192 8) : IVec S44x2x32x8192 32 :=
  extractStridedSlice S44x2x32x8192 ![0, 0, 0, 0] (extui 32 ql natLt_8_32) slices_S44x2x64x8192_S44x2x32x8192_0_0_0_0
def hiArr (ql : IVec S44x2x64x8192 8) : IVec S44x2x32x8192 32 :=
  extractStridedSlice S44x2x32x8192 ![0, 0, 32, 0] (extui 32 ql natLt_8_32) slices_S44x2x64x8192_S44x2x32x8192_0_0_32_0
def qArr (qh : IVec S44x2x32x8192 8) : IVec S44x2x32x8192 32 := extui 32 qh natLt_8_32

/-- Low and high part joined. -/
def join (l h : IVec S44x2x32x8192 32) : IVec S44x2x32x8192 32 := ori l (Host.shli (andi h (allq 3#32)) (allq 4#32))

/-- The four groups of codes. -/
def codes (ql : IVec S44x2x64x8192 8) (qh : IVec S44x2x32x8192 8) (f : Fin 4) : IVec S44x2x32x8192 32 :=
  match f with
  | 0 => join (andi (loArr ql) (allq 15#32)) (qArr qh)
  | 1 => join (andi (hiArr ql) (allq 15#32)) (Host.shrsi (qArr qh) (allq 2#32))
  | 2 => join (Host.shrsi (loArr ql) (allq 4#32)) (Host.shrsi (qArr qh) (allq 4#32))
  | 3 => join (Host.shrsi (hiArr ql) (allq 4#32)) (Host.shrsi (qArr qh) (allq 6#32))

/-- One group's scales and one group's columns of the activation. -/
def effPart (e : FVec Ideal S44x2x4x2x8192 .bf16) (f : Fin 4) : FVec Ideal S44x2x1x2x8192 .bf16 :=
  match f with
  | 0 => extractStridedSlice S44x2x1x2x8192 ![0, 0, 0, 0, 0] e slices_S44x2x4x2x8192_S44x2x1x2x8192_0_0_0_0_0
  | 1 => extractStridedSlice S44x2x1x2x8192 ![0, 0, 1, 0, 0] e slices_S44x2x4x2x8192_S44x2x1x2x8192_0_0_1_0_0
  | 2 => extractStridedSlice S44x2x1x2x8192 ![0, 0, 2, 0, 0] e slices_S44x2x4x2x8192_S44x2x1x2x8192_0_0_2_0_0
  | 3 => extractStridedSlice S44x2x1x2x8192 ![0, 0, 3, 0, 0] e slices_S44x2x4x2x8192_S44x2x1x2x8192_0_0_3_0_0

def xArr (x : FVec Ideal S192x1x11264 .bf16) : FVec Ideal S192x1x44x2x4x32 .bf16 := shapeCast _ x shapeCasts_S192x1x11264_S192x1x44x2x4x32

def xPart (x : FVec Ideal S192x1x11264 .bf16) (f : Fin 4) : FVec Ideal S192x1x44x2x1x32 .bf16 :=
  match f with
  | 0 => extractStridedSlice S192x1x44x2x1x32 ![0, 0, 0, 0, 0, 0] (xArr x) slices_S192x1x44x2x4x32_S192x1x44x2x1x32_0_0_0_0_0_0
  | 1 => extractStridedSlice S192x1x44x2x1x32 ![0, 0, 0, 0, 1, 0] (xArr x) slices_S192x1x44x2x4x32_S192x1x44x2x1x32_0_0_0_0_1_0
  | 2 => extractStridedSlice S192x1x44x2x1x32 ![0, 0, 0, 0, 2, 0] (xArr x) slices_S192x1x44x2x4x32_S192x1x44x2x1x32_0_0_0_0_2_0
  | 3 => extractStridedSlice S192x1x44x2x1x32 ![0, 0, 0, 0, 3, 0] (xArr x) slices_S192x1x44x2x4x32_S192x1x44x2x1x32_0_0_0_0_3_0

/-- One group's weight: its codes less 32, times its scales. -/
def wArr (c : IVec S44x2x32x8192 32) (e : FVec Ideal S44x2x1x2x8192 .bf16) : FVec Ideal S44x2x32x8192 .bf16 :=
  shapeCast _ (mulf (shapeCast _ (subf (sitofp .bf16 c) (broadcastInDim S44x2x32x8192 ![] bcast_S_S44x2x32x8192 (constant S_ .bf16 0x4200#16)))
      shapeCasts_S44x2x32x8192_S44x2x2x16x8192)
    (broadcastInDim S44x2x2x16x8192 ![0, 1, 2, 3, 4] bcast_S44x2x2x1x8192_S44x2x2x16x8192_0_1_2_3_4
      (broadcastInDim S44x2x2x1x8192 ![0, 1, 2, 4] bcast_S44x2x2x8192_S44x2x2x1x8192_0_1_2_4
        (shapeCast _ e shapeCasts_S44x2x1x2x8192_S44x2x2x8192)))) shapeCasts_S44x2x2x16x8192_S44x2x32x8192

/-- One group's product. -/
def prod (x : FVec Ideal S192x1x44x2x1x32 .bf16) (w : FVec Ideal S44x2x32x8192 .bf16) : FVec Ideal S192x1x8192 .f32 :=
  Host.dotGeneral dot_S192x1x44x2x32_S44x2x32x8192_S192x1x8192_342_120_01_3_n_n none (shapeCast _ x shapeCasts_S192x1x44x2x1x32_S192x1x44x2x32) w

def group (x : FVec Ideal S192x1x11264 .bf16) (ql : IVec S44x2x64x8192 8) (qh : IVec S44x2x32x8192 8) (e : FVec Ideal S44x2x4x2x8192 .bf16) (f : Fin 4) :
    FVec Ideal S192x1x8192 .f32 :=
  prod (xPart x f) (wArr (codes ql qh f) (effPart e f))

/-- The reference's result. -/
def out (x : FVec Ideal S192x1x11264 .bf16) (ql : IVec S44x2x64x8192 8) (qh : IVec S44x2x32x8192 8) (sc : IVec S44x16x8192 8) (d : IVec S44x8192 16) :
    FVec Ideal S192x8192 .bf16 :=
  shapeCast _ (truncf .bf16 (addf (addf (addf (addf (broadcastInDim S192x1x8192 ![] bcast_S_S192x1x8192 (constant S_ .f32 0x00000000#32))
    (group x ql qh (effArr d sc) 0)) (group x ql qh (effArr d sc) 1)) (group x ql qh (effArr d sc) 2)) (group x ql qh (effArr d sc) 3)) bitsLt_bf16_f32)
    shapeCasts_S192x1x8192_S192x8192

set_option maxRecDepth 8192 in
/-- The value the run ends with is `out` of the arguments. -/
theorem res_eq (m : (ℓ : Loc nD τ sig) → Buf (Elt Ideal) ℓ) (c : Dev nD) :
    Value.res_out0 (F := Ideal) m c = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_out0 Value.res_main_v138
  rfl

/-! ## The elements -/

theorem halfArr_apply (d : IVec S44x8192 16) (j : S44x8192.Idx) : halfArr d j = Half.half (d j) := by
  rw [← Half.byFields_eq]; rfl

/-- The row of scales of half `h`, group `f`, sixteen `i`. -/
theorem effArr_apply (d : IVec S44x8192 16) (sc : IVec S44x16x8192 8) (nb : Fin 44) (h : Fin 2) (f : Fin 4) (i : Fin 2) (o : Fin 8192) :
    effArr d sc (ix5 nb h f i o)
      = Half.half (d (ix2 nb o)) * (((sc (ix3 nb (⟨8 * h.val + 2 * f.val + i.val, by omega⟩ : Fin 16) o)).toInt : ℝ) : EReal) := by
  unfold effArr
  refine (shapeCast_apply _ _ _ (ix3 nb (⟨8 * h.val + 2 * f.val + i.val, by omega⟩ : Fin 16) o) ?_).trans ?_
  · rw [Shape.rowMajor_val_three, Shape.rowMajor_val_five]
    show (nb.val * 16 + (8 * h.val + 2 * f.val + i.val)) * 8192 + o.val = (((nb.val * 2 + h.val) * 4 + f.val) * 2 + i.val) * 8192 + o.val
    omega
  · have h1 : broadcastInDim S44x16x8192 ![0, 1, 2] bcast_S44x1x8192_S44x16x8192_0_1_2
        (broadcastInDim S44x1x8192 ![0, 2] bcast_S44x8192_S44x1x8192_0_2 (halfArr d)) (ix3 nb (⟨8 * h.val + 2 * f.val + i.val, by omega⟩ : Fin 16) o)
        = Half.half (d (ix2 nb o)) := by
      refine (broadcastInDim_apply _ _ _ _ (ix3 nb 0 o) ?_).trans ((broadcastInDim_apply _ _ _ _ (ix2 nb o) ?_).trans (halfArr_apply d _))
      · intro a
        match a with
        | ⟨0, _⟩ => rfl
        | ⟨1, _⟩ => rfl
        | ⟨2, _⟩ => rfl
      · intro a
        match a with
        | ⟨0, _⟩ => rfl
        | ⟨1, _⟩ => rfl
    have h2 : ∀ b : BitVec 8, (b.signExtend 32).toInt = b.toInt := fun b => BitVec.toInt_signExtend_of_le (by decide)
    refine congrArg₂ (· * ·) h1 ?_
    exact congrArg (fun z : ℤ => ((z : ℝ) : EReal)) (h2 _)

theorem effPart_apply (e : FVec Ideal S44x2x4x2x8192 .bf16) (f : Fin 4) (nb : Fin 44) (h i : Fin 2) (o : Fin 8192) :
    effPart e f (ix5 nb h 0 i o) = e (ix5 nb h f i o) := by
  have key : ∀ (off : Fin 5 → ℕ) (hs : S44x2x4x2x8192.Slices off S44x2x1x2x8192), off = ![0, 0, f.val, 0, 0] →
      extractStridedSlice S44x2x1x2x8192 off e hs (ix5 nb h 0 i o) = e (ix5 nb h f i o) := by
    intro off hs hoff
    subst hoff
    refine extractStridedSlice_apply _ _ _ _ _ fun a => ?_
    match a with
    | ⟨0, _⟩ => exact (Nat.zero_add _).symm
    | ⟨1, _⟩ => exact (Nat.zero_add _).symm
    | ⟨2, _⟩ => rfl
    | ⟨3, _⟩ => exact (Nat.zero_add _).symm
    | ⟨4, _⟩ => exact (Nat.zero_add _).symm
  match f with
  | 0 => exact key _ slices_S44x2x4x2x8192_S44x2x1x2x8192_0_0_0_0_0 rfl
  | 1 => exact key _ slices_S44x2x4x2x8192_S44x2x1x2x8192_0_0_1_0_0 rfl
  | 2 => exact key _ slices_S44x2x4x2x8192_S44x2x1x2x8192_0_0_2_0_0 rfl
  | 3 => exact key _ slices_S44x2x4x2x8192_S44x2x1x2x8192_0_0_3_0_0 rfl

theorem xPart_apply (x : FVec Ideal S192x1x11264 .bf16) (f : Fin 4) (b : Fin 192) (nb : Fin 44) (h : Fin 2) (l : Fin 32) :
    xPart x f (ix6 b 0 nb h 0 l) = x (ix3 b 0 (⟨256 * nb.val + (128 * h.val + 32 * f.val + l.val), by omega⟩ : Fin 11264)) := by
  have key : ∀ (f : Fin 4) (off : Fin 6 → ℕ) (hs : S192x1x44x2x4x32.Slices off S192x1x44x2x1x32), off = ![0, 0, 0, 0, f.val, 0] →
      extractStridedSlice S192x1x44x2x1x32 off (xArr x) hs (ix6 b 0 nb h 0 l)
        = x (ix3 b 0 (⟨256 * nb.val + (128 * h.val + 32 * f.val + l.val), by omega⟩ : Fin 11264)) := by
    intro f off hs hoff
    subst hoff
    refine (extractStridedSlice_apply _ _ _ _ (ix6 b 0 nb h f l) fun a => ?_).trans ?_
    · match a with
      | ⟨0, _⟩ => exact (Nat.zero_add _).symm
      | ⟨1, _⟩ => exact (Nat.zero_add _).symm
      | ⟨2, _⟩ => exact (Nat.zero_add _).symm
      | ⟨3, _⟩ => exact (Nat.zero_add _).symm
      | ⟨4, _⟩ => rfl
      | ⟨5, _⟩ => exact (Nat.zero_add _).symm
    · unfold xArr
      refine shapeCast_apply _ _ _ _ ?_
      rw [Shape.rowMajor_val_three, Shape.rowMajor_val_six]
      show (b.val * 1 + 0) * 11264 + (256 * nb.val + (128 * h.val + 32 * f.val + l.val))
        = ((((b.val * 1 + 0) * 44 + nb.val) * 2 + h.val) * 4 + f.val) * 32 + l.val
      omega
  match f with
  | 0 => exact key 0 _ slices_S192x1x44x2x4x32_S192x1x44x2x1x32_0_0_0_0_0_0 rfl
  | 1 => exact key 1 _ slices_S192x1x44x2x4x32_S192x1x44x2x1x32_0_0_0_0_1_0 rfl
  | 2 => exact key 2 _ slices_S192x1x44x2x4x32_S192x1x44x2x1x32_0_0_0_0_2_0 rfl
  | 3 => exact key 3 _ slices_S192x1x44x2x4x32_S192x1x44x2x1x32_0_0_0_0_3_0 rfl

theorem loArr_apply (ql : IVec S44x2x64x8192 8) (nb : Fin 44) (h : Fin 2) (l : Fin 32) (o : Fin 8192) :
    loArr ql (ix4 nb h l o) = (ql (ix4 nb h (⟨l.val, by omega⟩ : Fin 64) o)).setWidth 32 := by
  unfold loArr
  refine extractStridedSlice_apply _ _ _ _ (ix4 nb h (⟨l.val, by omega⟩ : Fin 64) o) fun a => ?_
  match a with
  | ⟨0, _⟩ => exact (Nat.zero_add _).symm
  | ⟨1, _⟩ => exact (Nat.zero_add _).symm
  | ⟨2, _⟩ => exact (Nat.zero_add _).symm
  | ⟨3, _⟩ => exact (Nat.zero_add _).symm

theorem hiArr_apply (ql : IVec S44x2x64x8192 8) (nb : Fin 44) (h : Fin 2) (l : Fin 32) (o : Fin 8192) :
    hiArr ql (ix4 nb h l o) = (ql (ix4 nb h (⟨32 + l.val, by omega⟩ : Fin 64) o)).setWidth 32 := by
  unfold hiArr
  refine extractStridedSlice_apply _ _ _ _ (ix4 nb h (⟨32 + l.val, by omega⟩ : Fin 64) o) fun a => ?_
  match a with
  | ⟨0, _⟩ => exact (Nat.zero_add _).symm
  | ⟨1, _⟩ => exact (Nat.zero_add _).symm
  | ⟨2, _⟩ => rfl
  | ⟨3, _⟩ => exact (Nat.zero_add _).symm

theorem join_apply (l h : IVec S44x2x32x8192 32) (j : S44x2x32x8192.Idx) : join l h j = l j ||| ((h j &&& 3#32) <<< 4) := rfl
theorem mask_apply (l : IVec S44x2x32x8192 32) (j : S44x2x32x8192.Idx) : andi l (allq 15#32) j = l j &&& 15#32 := rfl
theorem shift2_apply (l : IVec S44x2x32x8192 32) (j : S44x2x32x8192.Idx) : Host.shrsi l (allq 2#32) j = (l j).sshiftRight 2 := rfl
theorem shift4_apply (l : IVec S44x2x32x8192 32) (j : S44x2x32x8192.Idx) : Host.shrsi l (allq 4#32) j = (l j).sshiftRight 4 := rfl
theorem shift6_apply (l : IVec S44x2x32x8192 32) (j : S44x2x32x8192.Idx) : Host.shrsi l (allq 6#32) j = (l j).sshiftRight 6 := rfl
theorem qArr_apply (q : IVec S44x2x32x8192 8) (j : S44x2x32x8192.Idx) : qArr q j = (q j).setWidth 32 := rfl

theorem codes_apply (ql : IVec S44x2x64x8192 8) (qh : IVec S44x2x32x8192 8) (f : Fin 4) (nb : Fin 44) (h : Fin 2) (l : Fin 32) (o : Fin 8192) :
    (codes ql qh f (ix4 nb h l o)).toInt
      = codeOf f (ql (ix4 nb h (⟨l.val, by omega⟩ : Fin 64) o)) (ql (ix4 nb h (⟨32 + l.val, by omega⟩ : Fin 64) o)) (qh (ix4 nb h l o)) + 32 := by
  match f with
  | 0 =>
    unfold codes; dsimp only
    rw [join_apply, mask_apply, loArr_apply, qArr_apply, low32, (field32 _).1, or32]; rfl
  | 1 =>
    unfold codes; dsimp only
    rw [join_apply, mask_apply, hiArr_apply, shift2_apply, qArr_apply, low32, (field32 _).2.1, or32]; rfl
  | 2 =>
    unfold codes; dsimp only
    rw [join_apply, shift4_apply, shift4_apply, loArr_apply, qArr_apply, high32, (field32 _).2.2.1, or32]; rfl
  | 3 =>
    unfold codes; dsimp only
    rw [join_apply, shift4_apply, shift6_apply, hiArr_apply, qArr_apply, high32, (field32 _).2.2.2, or32]; rfl

theorem ofBits_32 : Ideal.ofBits .bf16 0x4200#16 = ((32 : ℝ) : EReal) := by
  simp [Ideal.ofBits, Ideal.ieee, -EReal.coe_mul, -EReal.coe_neg]; norm_num

/-- The offset taken off again. -/
theorem sub_32 (z : ℤ) : (((z + 32 : ℤ) : ℝ) : EReal) - Ideal.ofBits .bf16 0x4200#16 = ((z : ℝ) : EReal) := by
  rw [ofBits_32, ← EReal.coe_sub]; congr 1; push_cast; ring

theorem wArr_apply (c : IVec S44x2x32x8192 32) (e : FVec Ideal S44x2x1x2x8192 .bf16) (nb : Fin 44) (h : Fin 2) (l : Fin 32) (o : Fin 8192) :
    wArr c e (ix4 nb h l o)
      = ((((c (ix4 nb h l o)).toInt : ℝ) : EReal) - Ideal.ofBits .bf16 0x4200#16) * e (ix5 nb h 0 (⟨l.val / 16, by omega⟩ : Fin 2) o) := by
  unfold wArr
  refine (shapeCast_apply _ _ _ (ix5 nb h (⟨l.val / 16, by omega⟩ : Fin 2) (⟨l.val % 16, by omega⟩ : Fin 16) o) ?_).trans ?_
  · rw [Shape.rowMajor_val_four, Shape.rowMajor_val_five]
    show (((nb.val * 2 + h.val) * 2 + l.val / 16) * 16 + l.val % 16) * 8192 + o.val = ((nb.val * 2 + h.val) * 32 + l.val) * 8192 + o.val
    omega
  · refine congrArg₂ (· * ·) ?_ ?_
    · refine (shapeCast_apply _ _ _ (ix4 nb h l o) ?_).trans rfl
      rw [Shape.rowMajor_val_four, Shape.rowMajor_val_five]
      show ((nb.val * 2 + h.val) * 32 + l.val) * 8192 + o.val = (((nb.val * 2 + h.val) * 2 + l.val / 16) * 16 + l.val % 16) * 8192 + o.val
      omega
    · refine (broadcastInDim_apply _ _ _ _ (ix5 nb h (⟨l.val / 16, by omega⟩ : Fin 2) 0 o) ?_).trans
        ((broadcastInDim_apply _ _ _ _ (ix4 nb h (⟨l.val / 16, by omega⟩ : Fin 2) o) ?_).trans (shapeCast_apply _ _ _ _ ?_))
      · intro a
        match a with
        | ⟨0, _⟩ => rfl
        | ⟨1, _⟩ => rfl
        | ⟨2, _⟩ => rfl
        | ⟨3, _⟩ => rfl
        | ⟨4, _⟩ => rfl
      · intro a
        match a with
        | ⟨0, _⟩ => rfl
        | ⟨1, _⟩ => rfl
        | ⟨2, _⟩ => rfl
        | ⟨3, _⟩ => rfl
      · rw [Shape.rowMajor_val_four, Shape.rowMajor_val_five]
        show (((nb.val * 2 + h.val) * 1 + 0) * 2 + l.val / 16) * 8192 + o.val = ((nb.val * 2 + h.val) * 2 + l.val / 16) * 8192 + o.val
        omega

/-! ## The product -/

abbrev D := dot_S192x1x44x2x32_S44x2x32x8192_S192x1x8192_342_120_01_3_n_n

/-- The contraction's index: half, row, block. -/
def contrEquiv : Fin 2 × Fin 32 × Fin 44 ≃ D.contr.Idx where
  toFun k p := match p with
    | ⟨0, _⟩ => (k.1 : Fin 2)
    | ⟨1, _⟩ => (k.2.1 : Fin 32)
    | ⟨2, _⟩ => (k.2.2 : Fin 44)
  invFun kk := ((kk ⟨0, by decide⟩ : Fin 2), (kk ⟨1, by decide⟩ : Fin 32), (kk ⟨2, by decide⟩ : Fin 44))
  left_inv _ := rfl
  right_inv kk := by
    funext p
    match p with
    | ⟨0, _⟩ => rfl
    | ⟨1, _⟩ => rfl
    | ⟨2, _⟩ => rfl

theorem prod_apply (x : FVec Ideal S192x1x44x2x1x32 .bf16) (w : FVec Ideal S44x2x32x8192 .bf16) (b : Fin 192) (o : Fin 8192) :
    prod x w (ix3 b 0 o) = ∑ h : Fin 2, ∑ l : Fin 32, ∑ nb : Fin 44, x (ix6 b 0 nb h 0 l) * w (ix4 nb h l o) := by
  unfold prod
  refine (zero_add _).trans ?_
  rw [← Equiv.sum_comp contrEquiv, Fintype.sum_prod_type]
  refine Finset.sum_congr rfl fun h _ => ?_
  rw [Fintype.sum_prod_type]
  refine Finset.sum_congr rfl fun l _ => Finset.sum_congr rfl fun nb _ => ?_
  have el : D.lhsIdx (ix3 b 0 o) (contrEquiv (h, l, nb)) = ix5 b 0 nb h l := by
    funext a; apply Fin.ext
    match a with
    | ⟨0, _⟩ => rfl
    | ⟨1, _⟩ => rfl
    | ⟨2, _⟩ => rfl
    | ⟨3, _⟩ => rfl
    | ⟨4, _⟩ => rfl
  have er : D.rhsIdx (ix3 b 0 o) (contrEquiv (h, l, nb)) = ix4 nb h l o := by
    funext a; apply Fin.ext
    match a with
    | ⟨0, _⟩ => rfl
    | ⟨1, _⟩ => rfl
    | ⟨2, _⟩ => rfl
    | ⟨3, _⟩ => rfl
  rw [el, er]
  refine congrArg (· * w (ix4 nb h l o)) (shapeCast_apply _ _ _ _ ?_)
  rw [Shape.rowMajor_val_six, Shape.rowMajor_val_five]
  show ((((b.val * 1 + 0) * 44 + nb.val) * 2 + h.val) * 1 + 0) * 32 + l.val = (((b.val * 1 + 0) * 44 + nb.val) * 2 + h.val) * 32 + l.val
  omega

/-- One term of the sum. -/
def term (x : FVec Ideal S192x1x11264 .bf16) (ql : IVec S44x2x64x8192 8) (qh : IVec S44x2x32x8192 8) (sc : IVec S44x16x8192 8) (d : IVec S44x8192 16)
    (b : Fin 192) (o : Fin 8192) (nb : Fin 44) (h : Fin 2) (f : Fin 4) (l : Fin 32) : EReal :=
  x (ix3 b 0 (⟨256 * nb.val + (128 * h.val + 32 * f.val + l.val), by omega⟩ : Fin 11264))
    * (((codeOf f (ql (ix4 nb h (⟨l.val, by omega⟩ : Fin 64) o)) (ql (ix4 nb h (⟨32 + l.val, by omega⟩ : Fin 64) o)) (qh (ix4 nb h l o)) : ℝ) : EReal)
      * (Half.half (d (ix2 nb o)) * (((sc (ix3 nb (⟨8 * h.val + 2 * f.val + l.val / 16, by omega⟩ : Fin 16) o)).toInt : ℝ) : EReal)))

theorem group_apply (x : FVec Ideal S192x1x11264 .bf16) (ql : IVec S44x2x64x8192 8) (qh : IVec S44x2x32x8192 8) (sc : IVec S44x16x8192 8) (d : IVec S44x8192 16)
    (f : Fin 4) (b : Fin 192) (o : Fin 8192) :
    group x ql qh (effArr d sc) f (ix3 b 0 o) = ∑ h : Fin 2, ∑ l : Fin 32, ∑ nb : Fin 44, term x ql qh sc d b o nb h f l := by
  unfold group
  rw [prod_apply]
  refine Finset.sum_congr rfl fun h _ => Finset.sum_congr rfl fun l _ => Finset.sum_congr rfl fun nb _ => ?_
  rw [xPart_apply, wArr_apply, codes_apply, sub_32, effPart_apply, effArr_apply]
  rfl

theorem out_apply (x : FVec Ideal S192x1x11264 .bf16) (ql : IVec S44x2x64x8192 8) (qh : IVec S44x2x32x8192 8) (sc : IVec S44x16x8192 8) (d : IVec S44x8192 16)
    (b : Fin 192) (o : Fin 8192) :
    out x ql qh sc d (ix2 b o) = ∑ f : Fin 4, ∑ h : Fin 2, ∑ l : Fin 32, ∑ nb : Fin 44, term x ql qh sc d b o nb h f l := by
  have e := fun f => group_apply x ql qh sc d f b o
  simp only [← e]
  rw [Fin.sum_univ_four]
  unfold out
  refine (shapeCast_apply _ _ _ (ix3 b 0 o) ?_).trans ?_
  · rw [Shape.rowMajor_val_three, Shape.rowMajor_val_two]
    show (b.val * 1 + 0) * 8192 + o.val = b.val * 8192 + o.val
    omega
  · have h0 : (broadcastInDim S192x1x8192 ![] bcast_S_S192x1x8192 (constant (F := Ideal) S_ .f32 0x00000000#32)) (ix3 b 0 o) = (0 : EReal) :=
      Ideal.ofBits_zero_f32
    refine Eq.trans (congrArg (fun z : EReal => z + group x ql qh (effArr d sc) 0 (ix3 b 0 o) + group x ql qh (effArr d sc) 1 (ix3 b 0 o)
      + group x ql qh (effArr d sc) 2 (ix3 b 0 o) + group x ql qh (effArr d sc) 3 (ix3 b 0 o)) h0) ?_
    rw [zero_add]

end Cert.ReferenceIdeal.Plain

end
-- ==== Proof.Equation.lean ====
/-
  One output tile of the idealized kernel is the same columns of the idealized reference's output: both are the sum, over every
  row of the weight, of the activation's element times the weight's, and the two differ in the order of the sum only.
-/
module

public import proofs.«01_k».proof.Proof.KernelValue
public import proofs.«01_k».proof.Proof.RefValue
public import Mathlib.Algebra.BigOperators.Fin
public import Mathlib.Data.Fintype.BigOperators

@[expose] public section

noncomputable section

namespace Cert.Equation

open Cert.KernelIdeal Cert.KernelIdeal.Codes Cert.KernelIdeal.Trip Cert.KernelIdeal.Value Cert.Bytes
open Idealize.ShloMosaic hiding ix2 ix3 ix4
open Idealize.ShloMosaic.ValueIdx (ix2 ix3 ix4)

/-- The 256 rows of a block by group, half and row within the group. -/
def rows : Fin 256 ≃ Fin 4 × Fin 2 × Fin 32 where
  toFun κ := (fOf κ, hOf κ, lOf κ)
  invFun p := ⟨128 * p.2.1.val + 32 * p.1.val + p.2.2.val, by omega⟩
  left_inv κ := Fin.ext (by show 128 * (κ.val / 128) + 32 * (κ.val / 32 % 4) + κ.val % 32 = κ.val; omega)
  right_inv p := by
    obtain ⟨f, h, l⟩ := p
    refine Prod.ext (Fin.ext ?_) (Prod.ext (Fin.ext ?_) (Fin.ext ?_))
    · show (128 * h.val + 32 * f.val + l.val) / 32 % 4 = f.val; omega
    · show (128 * h.val + 32 * f.val + l.val) / 128 = h.val; omega
    · show (128 * h.val + 32 * f.val + l.val) % 32 = l.val; omega

theorem sum_rows (T : Fin 2 → Fin 4 → Fin 32 → EReal) :
    ∑ κ : Fin 256, T (hOf κ) (fOf κ) (lOf κ) = ∑ f : Fin 4, ∑ h : Fin 2, ∑ l : Fin 32, T h f l := by
  rw [Fintype.sum_equiv rows (fun κ => T (hOf κ) (fOf κ) (lOf κ)) (fun p => T p.2.1 p.1 p.2.2) (fun _ => rfl), Fintype.sum_prod_type]
  exact Finset.sum_congr rfl fun f _ => Fintype.sum_prod_type _

/-- The sum with the blocks outermost and the sum with them innermost. -/
theorem sum_blocks (T : Fin 44 → Fin 2 → Fin 4 → Fin 32 → EReal) :
    ∑ nb : Fin 44, ∑ κ : Fin 256, T nb (hOf κ) (fOf κ) (lOf κ)
      = ∑ f : Fin 4, ∑ h : Fin 2, ∑ l : Fin 32, ∑ nb : Fin 44, T nb h f l := by
  simp only [sum_rows]
  rw [Finset.sum_comm]
  refine Finset.sum_congr rfl fun f _ => ?_
  rw [Finset.sum_comm]
  refine Finset.sum_congr rfl fun h _ => ?_
  rw [Finset.sum_comm]

/-- Column `o` of tile `n` is column `512 n + o`. -/
def col (n : Fin 16) (o : Fin 512) : Fin 8192 := ⟨512 * n.val + o.val, by omega⟩

/-- If a tile's blocks are the columns of tile `n`, each term of its sum is the reference's. -/
theorem term_eq (x : Vec Ideal S192x1x11264 .bf16) (ql : Vec Ideal S44x2x64x8192 .i8) (qh : Vec Ideal S44x2x32x8192 .i8)
    (sc : Vec Ideal S44x16x8192 .i8) (d : Vec Ideal S44x8192 .i16)
    (x' : Vec Ideal S192x11264 .bf16) (ql' : Vec Ideal S44x2x64x512 .i8) (qh' : Vec Ideal S44x2x32x512 .i8)
    (sc' : Vec Ideal S44x16x512 .i8) (d' : Vec Ideal S44x512 .i16) (n : Fin 16)
    (hx : ∀ b k, x' (ix2 b k) = x (ix3 b 0 k)) (hql : ∀ nb h r o, ql' (ix4 nb h r o) = ql (ix4 nb h r (col n o)))
    (hqh : ∀ nb h r o, qh' (ix4 nb h r o) = qh (ix4 nb h r (col n o))) (hsc : ∀ nb r o, sc' (ix3 nb r o) = sc (ix3 nb r (col n o)))
    (hd : ∀ nb o, d' (ix2 nb o) = d (ix2 nb (col n o))) (b : Fin 192) (o : Fin 512) (nb : Fin 44) (κ : Fin 256) :
    x' (ix2 b (⟨256 * nb.val + κ.val, by omega⟩ : Fin 11264)) * wElem ql' qh' sc' (fun j => Half.half (d' j)) nb κ o
      = Cert.ReferenceIdeal.Plain.term x ql qh sc d b (col n o) nb (hOf κ) (fOf κ) (lOf κ) := by
  unfold wElem eff Cert.ReferenceIdeal.Plain.term
  have hk : (⟨256 * nb.val + κ.val, by omega⟩ : Fin 11264)
      = ⟨256 * nb.val + (128 * (hOf κ).val + 32 * (fOf κ).val + (lOf κ).val), by omega⟩ := Fin.ext (by
    show 256 * nb.val + κ.val = 256 * nb.val + (128 * (κ.val / 128) + 32 * (κ.val / 32 % 4) + κ.val % 32); omega)
  have hr : rOf (hOf κ) (fOf κ) (iOf κ) = ⟨8 * (hOf κ).val + 2 * (fOf κ).val + (lOf κ).val / 16, by omega⟩ := Fin.ext (by
    show 8 * (κ.val / 128) + 2 * (κ.val / 32 % 4) + κ.val / 16 % 2 = 8 * (κ.val / 128) + 2 * (κ.val / 32 % 4) + κ.val % 32 / 16; omega)
  beta_reduce
  rw [hx, hql, hql, hqh, hsc, hd, hk, hr, mul_comm (((sc _).toInt : ℝ) : EReal)]

/-- A tile is its columns of the reference's output. -/
theorem tile_eq_out (x : Vec Ideal S192x1x11264 .bf16) (ql : Vec Ideal S44x2x64x8192 .i8) (qh : Vec Ideal S44x2x32x8192 .i8)
    (sc : Vec Ideal S44x16x8192 .i8) (d : Vec Ideal S44x8192 .i16)
    (x' : Vec Ideal S192x11264 .bf16) (ql' : Vec Ideal S44x2x64x512 .i8) (qh' : Vec Ideal S44x2x32x512 .i8)
    (sc' : Vec Ideal S44x16x512 .i8) (d' : Vec Ideal S44x512 .i16) (n : Fin 16)
    (hx : ∀ b k, x' (ix2 b k) = x (ix3 b 0 k)) (hql : ∀ nb h r o, ql' (ix4 nb h r o) = ql (ix4 nb h r (col n o)))
    (hqh : ∀ nb h r o, qh' (ix4 nb h r o) = qh (ix4 nb h r (col n o))) (hsc : ∀ nb r o, sc' (ix3 nb r o) = sc (ix3 nb r (col n o)))
    (hd : ∀ nb o, d' (ix2 nb o) = d (ix2 nb (col n o))) (b : Fin 192) (o : Fin 512) :
    tile x' ql' qh' sc' d' (ix2 b o) = Cert.ReferenceIdeal.Plain.out x ql qh sc d (ix2 b (col n o)) := by
  rw [tile_apply, Cert.ReferenceIdeal.Plain.out_apply, ← sum_blocks (fun nb h f l => Cert.ReferenceIdeal.Plain.term x ql qh sc d b (col n o) nb h f l)]
  exact Finset.sum_congr rfl fun nb _ => Finset.sum_congr rfl fun κ _ => term_eq x ql qh sc d x' ql' qh' sc' d' n hx hql hqh hsc hd b o nb κ

end Cert.Equation

end
-- ==== Proof.Algebraic.lean ====
/-
  The idealized kernel's result array, put together from its sixteen tiles, and the value claim: the idealized kernel and the
  idealized reference, started with the same arguments, end with the same result.
-/
module

public import proofs.«01_k».proof.Defs
public import proofs.«01_k».proof.Proof.IdealRun
public import proofs.«01_k».proof.Proof.Equation
public import proofs.«01_k».proof.Proof.Gen.KernelIdeal
public import proofs.«01_k».proof.Proof.Gen.ReferenceIdeal
public import Idealize.ShloMosaic.Lib.Claim
public import Idealize.ShloMosaic.Lib.Pipeline.Value

@[expose] public section

set_option maxRecDepth 16384

noncomputable section

namespace Cert.KernelIdeal.Result

open Cert.KernelIdeal Cert.KernelIdeal.Gen Cert.KernelIdeal.Run Cert.KernelIdeal.Trip Cert.Equation
open Idealize.ShloMosaic hiding ix2 ix3 ix4
open Idealize.ShloMosaic.ValueIdx (ix2 ix3 ix4)
open Idealize.ShloMosaic.TcCoe Idealize.SL.Sem
open Idealize.ShloMosaic.Pipeline (Dat Cfg Window)

variable (m : (ℓ : Loc nD τ sig) → Buf (Elt Ideal) ℓ) (ρ : Dev nD → PrngReg)

/-- The grid's points are the sixteen tiles. -/
def tileOf (t : Fin cfg0.N) : Fin 16 := ⟨t.val, by have h : cfg0.N = 16 := N_0; omega⟩

/-! ## Where the blocks lie -/

/-- Every window but the first takes, at point `t`, block `t` of its array along the last axis. -/
theorem idx_eq (t : Fin cfg0.N) :
    (win0_0.index t 0 = 0 ∧ win0_0.index t 1 = 0)
    ∧ (win0_1.index t 0 = 0 ∧ win0_1.index t 1 = 0 ∧ win0_1.index t 2 = 0 ∧ win0_1.index t 3 = t.val)
    ∧ (win0_2.index t 0 = 0 ∧ win0_2.index t 1 = 0 ∧ win0_2.index t 2 = 0 ∧ win0_2.index t 3 = t.val)
    ∧ (win0_3.index t 0 = 0 ∧ win0_3.index t 1 = 0 ∧ win0_3.index t 2 = t.val)
    ∧ (win0_4.index t 0 = 0 ∧ win0_4.index t 1 = t.val)
    ∧ (win0_5.index t 0 = 0 ∧ win0_5.index t 1 = t.val) := by
  revert t
  decide +kernel

/-- The activation without its middle axis, at an element. -/
theorem flat_apply (x : Vec Ideal S192x1x11264 .bf16) (b : Fin 192) (k : Fin 11264) :
    shapeCast S192x11264 x shapeCasts_S192x1x11264_S192x11264 (ix2 b k) = x (ix3 b 0 k) :=
  shapeCast_apply _ _ _ _ (by rw [Shape.rowMajor_val_three, Shape.rowMajor_val_two]; simp)

/-- The first operand of the region is the activation without its middle axis. -/
theorem V_v0 (c : Dev nD) (b : Fin 192) (k : Fin 11264) :
    (V m c main_v0 : Vec Ideal S192x11264 .bf16) (ix2 b k) = (m ((c : Thread nD τ).loc main_arg0) : Vec Ideal S192x1x11264 .bf16) (ix3 b 0 k) := by
  have e : (V m c main_v0 : Vec Ideal S192x11264 .bf16)
      = shapeCast S192x11264 (m ((c : Thread nD τ).loc main_arg0) : Vec Ideal S192x1x11264 .bf16) shapeCasts_S192x1x11264_S192x11264 := by
    show StableHlo.after hostOps0 (fun b => m (c, b)) (Proc.devRef .tc main_v0) = _
    after_results
    rfl
  rw [e]
  exact flat_apply _ b k

theorem blk0 (c : Dev nD) (t : Fin cfg0.N) (b : Fin 192) (k : Fin 11264) :
    (iblk m c 0 t : Vec Ideal S192x11264 .bf16) (ix2 b k) = (m ((c : Thread nD τ).loc main_arg0) : Vec Ideal S192x1x11264 .bf16) (ix3 b 0 k) := by
  refine Eq.trans ?_ (V_v0 m c b k)
  refine congrArg (V m c main_v0) (funext fun a => Fin.ext ?_)
  obtain ⟨⟨e0, e1⟩, -⟩ := idx_eq t
  match a with
  | ⟨0, _⟩ => show win0_0.index t (0 : Fin 2) * 192 + 1 * b.val = b.val; omega
  | ⟨1, _⟩ => show win0_0.index t (1 : Fin 2) * 11264 + 1 * k.val = k.val; omega

theorem blk1 (c : Dev nD) (t : Fin cfg0.N) (nb : Fin 44) (h : Fin 2) (r : Fin 64) (o : Fin 512) :
    (iblk m c 1 t : Vec Ideal S44x2x64x512 .i8) (ix4 nb h r o)
      = (m ((c : Thread nD τ).loc main_arg1) : Vec Ideal S44x2x64x8192 .i8) (ix4 nb h r (col (tileOf t) o)) := by
  rw [← V_main_arg1 m c]
  refine congrArg (V m c main_arg1) (funext fun a => Fin.ext ?_)
  obtain ⟨-, ⟨e0, e1, e2, e3⟩, -⟩ := idx_eq t
  match a with
  | ⟨0, _⟩ => show win0_1.index t (0 : Fin 4) * 44 + 1 * nb.val = nb.val; omega
  | ⟨1, _⟩ => show win0_1.index t (1 : Fin 4) * 2 + 1 * h.val = h.val; omega
  | ⟨2, _⟩ => show win0_1.index t (2 : Fin 4) * 64 + 1 * r.val = r.val; omega
  | ⟨3, _⟩ => show win0_1.index t (3 : Fin 4) * 512 + 1 * o.val = 512 * t.val + o.val; omega

theorem blk2 (c : Dev nD) (t : Fin cfg0.N) (nb : Fin 44) (h : Fin 2) (r : Fin 32) (o : Fin 512) :
    (iblk m c 2 t : Vec Ideal S44x2x32x512 .i8) (ix4 nb h r o)
      = (m ((c : Thread nD τ).loc main_arg2) : Vec Ideal S44x2x32x8192 .i8) (ix4 nb h r (col (tileOf t) o)) := by
  rw [← V_main_arg2 m c]
  refine congrArg (V m c main_arg2) (funext fun a => Fin.ext ?_)
  obtain ⟨-, -, ⟨e0, e1, e2, e3⟩, -⟩ := idx_eq t
  match a with
  | ⟨0, _⟩ => show win0_2.index t (0 : Fin 4) * 44 + 1 * nb.val = nb.val; omega
  | ⟨1, _⟩ => show win0_2.index t (1 : Fin 4) * 2 + 1 * h.val = h.val; omega
  | ⟨2, _⟩ => show win0_2.index t (2 : Fin 4) * 32 + 1 * r.val = r.val; omega
  | ⟨3, _⟩ => show win0_2.index t (3 : Fin 4) * 512 + 1 * o.val = 512 * t.val + o.val; omega

theorem blk3 (c : Dev nD) (t : Fin cfg0.N) (nb : Fin 44) (r : Fin 16) (o : Fin 512) :
    (iblk m c 3 t : Vec Ideal S44x16x512 .i8) (ix3 nb r o)
      = (m ((c : Thread nD τ).loc main_arg3) : Vec Ideal S44x16x8192 .i8) (ix3 nb r (col (tileOf t) o)) := by
  rw [← V_main_arg3 m c]
  refine congrArg (V m c main_arg3) (funext fun a => Fin.ext ?_)
  obtain ⟨-, -, -, ⟨e0, e1, e2⟩, -⟩ := idx_eq t
  match a with
  | ⟨0, _⟩ => show win0_3.index t (0 : Fin 3) * 44 + 1 * nb.val = nb.val; omega
  | ⟨1, _⟩ => show win0_3.index t (1 : Fin 3) * 16 + 1 * r.val = r.val; omega
  | ⟨2, _⟩ => show win0_3.index t (2 : Fin 3) * 512 + 1 * o.val = 512 * t.val + o.val; omega

theorem blk4 (c : Dev nD) (t : Fin cfg0.N) (nb : Fin 44) (o : Fin 512) :
    (iblk m c 4 t : Vec Ideal S44x512 .i16) (ix2 nb o)
      = (m ((c : Thread nD τ).loc main_arg4) : Vec Ideal S44x8192 .i16) (ix2 nb (col (tileOf t) o)) := by
  rw [← V_main_arg4 m c]
  refine congrArg (V m c main_arg4) (funext fun a => Fin.ext ?_)
  obtain ⟨-, -, -, -, ⟨e0, e1⟩, -⟩ := idx_eq t
  match a with
  | ⟨0, _⟩ => show win0_4.index t (0 : Fin 2) * 44 + 1 * nb.val = nb.val; omega
  | ⟨1, _⟩ => show win0_4.index t (1 : Fin 2) * 512 + 1 * o.val = 512 * t.val + o.val; omega

/-- Element (b, o) of tile `t` is element (b, 512 t + o) of the result. -/
theorem emb5 (t : Fin cfg0.N) (b : Fin 192) (o : Fin 512) :
    ((cfg0.win 5).blk t).view.emb (ix2 b o : S192x512.Idx) = (ix2 b (col (tileOf t) o) : S192x8192.Idx) := by
  obtain ⟨-, -, -, -, -, ⟨e0, e1⟩⟩ := idx_eq t
  funext a; apply Fin.ext
  match a with
  | ⟨0, _⟩ => show win0_5.index t (0 : Fin 2) * 192 + 1 * b.val = b.val; omega
  | ⟨1, _⟩ => show win0_5.index t (1 : Fin 2) * 512 + 1 * o.val = 512 * t.val + o.val; omega

/-! ## The result array -/

/-- The result: the reference's output of the five arguments. -/
def result (c : Dev nD) : Vec Ideal S192x8192 .bf16 :=
  Cert.ReferenceIdeal.Plain.out (m ((c : Thread nD τ).loc main_arg0)) (m ((c : Thread nD τ).loc main_arg1)) (m ((c : Thread nD τ).loc main_arg2))
    (m ((c : Thread nD τ).loc main_arg3)) (m ((c : Thread nD τ).loc main_arg4))

/-- What a point writes back is its block of the result. -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5]
  funext j
  obtain ⟨b, o, rfl⟩ : ∃ (b : Fin 192) (o : Fin 512), j = (ix2 b o : S192x512.Idx) := ⟨j 0, j 1, ValueIdx.eq_ix2 j⟩
  have e := tile_eq_out (m ((c : Thread nD τ).loc main_arg0)) (m ((c : Thread nD τ).loc main_arg1)) (m ((c : Thread nD τ).loc main_arg2))
    (m ((c : Thread nD τ).loc main_arg3)) (m ((c : Thread nD τ).loc main_arg4)) (iblk m c 0 t) (iblk m c 1 t) (iblk m c 2 t) (iblk m c 3 t)
    (iblk m c 4 t) (tileOf t) (blk0 m c t) (blk1 m c t) (blk2 m c t) (blk3 m c t) (blk4 m c t) b o
  refine e.trans ?_
  show _ = result m c (((cfg0.win 5).blk t).view.emb (ix2 b o : S192x512.Idx))
  rw [emb5]
  rfl

/-- Every element of the result lies in some tile. -/
theorem covered (i : S192x8192.Idx) : ∃ t : Fin cfg0.N, (cfg0.win 5).flush t = true ∧ i ∈ ((cfg0.win 5).blk t).view.set := by
  have h1 : (i 1 : Nat) < 8192 := (i 1).isLt
  have hN : cfg0.N = 16 := N_0
  let t : Fin cfg0.N := ⟨(i 1 : Nat) / 512, by omega⟩
  let o : Fin 512 := ⟨(i 1 : Nat) % 512, by omega⟩
  refine ⟨t, flush0_5 t, ?_⟩
  have key : ∀ j : S192x8192.Idx, ((cfg0.win 5).blk t).view.emb (ix2 (i 0) o : S192x512.Idx) = j → j ∈ ((cfg0.win 5).blk t).view.set := by
    rintro _ rfl; exact ((cfg0.win 5).blk t).view.emb_mem_set _
  have hi : (ix2 (i 0) (col (tileOf t) o) : S192x8192.Idx) = i := by
    rw [ValueIdx.eq_ix2 i]
    exact congrArg (ix2 (i 0)) (Fin.ext (by show 512 * ((i 1 : Nat) / 512) + (i 1 : Nat) % 512 = (i 1 : Nat); omega))
  exact key i ((emb5 t (i 0) o).trans hi)

theorem final (c : Dev nD) : (dats m 0 c).arrAt 5 cfg0.N = result m c :=
  (dats m 0 c).arrAt_eq_of_cover 5 (result m c) (fun t _ => flushed_eq m c t) covered

/-- The run with its result and its arguments named. -/
theorem run : θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.1 c).1 5).trans (final m c), h.2 c⟩) (θ_run_and (run_main m ρ) (unchanged m ρ))

end Cert.KernelIdeal.Result

namespace Cert.Proof

open Idealize.ShloMosaic Idealize.SL.Sem

/-- The value claim. -/
theorem algebraic : Cert.algebraic_KernelIdeal_ReferenceIdeal := by
  intro m g m' g' _ hargs
  refine ⟨fun c => Cert.KernelIdeal.Result.result m c, Cert.KernelIdeal.Result.run m g, ?_⟩
  refine (θ_run Cert.ReferenceIdeal.defs _ _).mono (fun r h c => ⟨((h c).1).trans ?_, (h c).2⟩) (Cert.ReferenceIdeal.Value.run (F := Ideal) m' g')
  obtain ⟨h0, h1, h2, h3, h4⟩ := hargs c
  refine (Cert.ReferenceIdeal.Plain.res_eq m' c).trans ?_
  rw [h0, h1, h2, h3, h4]
  rfl

end Cert.Proof

end
-- ==== Proof.lean ====
/-
  The certificate's claim, put together.
-/
module

public import proofs.«01_k».proof.Defs
public import proofs.«01_k».proof.Proof.Frames
public import proofs.«01_k».proof.Proof.Algebraic

@[expose] public section

noncomputable section

namespace Cert.Proof

theorem claim : Cert.Claim := ⟨Cert.Kernel.Gen.facts, Cert.KernelIdeal.Gen.facts, Cert.ReferenceIdeal.Gen.facts,
  frame_p, frame_pi, frame_ri, preserves, algebraic⟩

end Cert.Proof

end
